-- ==== Defs.lean ====
def Pre_Kernel (m : (ℓ : Loc Cert.Kernel.nD Cert.Kernel.τ Cert.Kernel.sig) → Buf (Elt Bits) ℓ) : Prop :=
  True

def Pre_Kernel_clear_choice [hPre_clear_choice : Cert.Pre_clear_choice.Facts] (m : (ℓ : Loc Cert.Kernel.nD Cert.Kernel.τ Cert.Kernel.sig) → Buf (Elt Bits) ℓ) : Prop :=
  ∀ c : Dev Cert.Kernel.nD,
    (Cert.Pre_clear_choice.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_clear_choice : Cert.Pre_clear_choice.Facts] (m : (ℓ : Loc Cert.KernelIdeal.nD Cert.KernelIdeal.τ Cert.KernelIdeal.sig) → Buf (Elt Ideal) ℓ) : Prop :=
  ∀ c : Dev Cert.KernelIdeal.nD,
    (Cert.Pre_clear_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_choice [hPre_clear_choice : Cert.Pre_clear_choice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_clear_choice [hKernel : Cert.Kernel.Facts] [hPre_clear_choice : Cert.Pre_clear_choice.Facts] : Prop :=
  ∀ (m : (ℓ : Loc Cert.Kernel.nD Cert.Kernel.τ Cert.Kernel.sig) → Buf (Elt Bits) ℓ) (g : Dev Cert.Kernel.nD → PrngReg), Pre_Kernel_clear_choice m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_clear_choice : Cert.Pre_clear_choice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_clear_choice [hReferenceIdeal : Cert.ReferenceIdeal.Facts] [hPre_clear_choice : Cert.Pre_clear_choice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_choice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_clear_choice : Cert.Pre_clear_choice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_clear_choice : Cert.Pre_clear_choice.Facts),
    quiescent_Kernel (hKernel := hKernel)
    ∧ quiescent_Kernel_pre_clear_choice (hKernel := hKernel) (hPre_clear_choice := hPre_clear_choice)
    ∧ quiescent_KernelIdeal (hKernelIdeal := hKernelIdeal) (hPre_clear_choice := hPre_clear_choice)
    ∧ quiescent_ReferenceIdeal (hReferenceIdeal := hReferenceIdeal)
    ∧ quiescent_ReferenceIdeal_pre_clear_choice (hReferenceIdeal := hReferenceIdeal) (hPre_clear_choice := hPre_clear_choice)
    ∧ preserves_Kernel_KernelIdeal
    ∧ algebraic_KernelIdeal_ReferenceIdeal (hKernelIdeal := hKernelIdeal) (hReferenceIdeal := hReferenceIdeal) (hPre_clear_choice := hPre_clear_choice)
-- ==== Pre_clear_choice.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048 : Shape := ⟨2, ![4, 2048]⟩
abbrev S4x2048x1 : Shape := ⟨3, ![4, 2048, 1]⟩

class Facts : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  reducesTo_S4x2048x64_S4x2048_d2 : S4x2048x64.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x64_0_1_2 : S4x2048x1.BroadcastsInDim S4x2048x64 (![0, 1, 2] : Fin 3 → Fin S4x2048x64.rank)
  bcast_S_S4x2048x64 : S_.BroadcastsInDim S4x2048x64 (![] : Fin 0 → Fin S4x2048x64.rank)
  natLt_1_32 : 1 < 32
  bcast_S_S4x2048 : S_.BroadcastsInDim S4x2048 (![] : Fin 0 → Fin S4x2048.rank)
  bcast_S_S4x2048x1 : S_.BroadcastsInDim S4x2048x1 (![] : Fin 0 → Fin S4x2048x1.rank)
  reducesTo_S4x2048x1_S4x2048_d2 : S4x2048x1.ReducesTo [2] S4x2048
  reducesTo_S4x2048_S_d0_1 : S4x2048.ReducesTo [0, 1] S_
  dot_S4x2048x1024_S1024x64_S4x2048x64_2_0_01_1_n_n_wf : DotDims.WF S4x2048x1024 S1024x64 S4x2048x64 [2] [0] [0, 1] [1] [] []

variable [Facts]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def fn_where {F : FTy → Type} [FloatOps F] (arg0 : IVec S4x2048x64 1) (arg1 : FVec F S_ .f32) (arg2 : FVec F S4x2048x64 .f32) : FVec F S4x2048x64 .f32 :=
  let v0 : FVec F S_ .f32 := id arg1
  let v1 : FVec F S4x2048x64 .f32 := broadcastInDim S4x2048x64 ![] bcast_S_S4x2048x64 v0
  let v2 : FVec F S4x2048x64 .f32 := select arg0 v1 arg2
  v2

def fn_part1 {F : FTy → Type} [FloatOps F] (main_v5 : FVec F S4x2048x1 .f32) (main_v10 : FVec F S4x2048x1 .f32) (main_v16 : IVec S4x2048 1) (main_v17 : IVec S4x2048x64 32) (main_c_3 : IVec S_ 32) : IVec S_ 1 :=
  let main_v18 : IVec S4x2048 32 := (fun x v => Host.reduce IntOp.addi x v reducesTo_S4x2048x64_S4x2048_d2 h_S_) main_v17 main_c_3
  let main_c_4 : IVec S_ 32 := constantI S_ 32 1#32
  let main_v19 : IVec S4x2048 32 := broadcastInDim S4x2048 ![] bcast_S_S4x2048 main_c_4
  let main_v20 : IVec S4x2048 1 := cmpi .eq main_v18 main_v19
  let main_cst_5 : FVec F S_ .f32 := constant S_ .f32 0x7F800000#32
  let main_v21 : FVec F S4x2048x1 .f32 := broadcastInDim S4x2048x1 ![] bcast_S_S4x2048x1 main_cst_5
  let main_v22 : IVec S4x2048x1 1 := cmpf .olt main_v5 main_v21
  let main_cst_6 : FVec F S_ .f32 := constant S_ .f32 0xFF800000#32
  let main_v23 : FVec F S4x2048x1 .f32 := broadcastInDim S4x2048x1 ![] bcast_S_S4x2048x1 main_cst_6
  let main_v24 : IVec S4x2048x1 1 := cmpf .ogt main_v10 main_v23
  let main_v25 : IVec S4x2048x1 1 := andi main_v22 main_v24
  let main_c_7 : IVec S_ 1 := constantI S_ 1 1#1
  let main_v26 : IVec S4x2048 1 := (fun x v => Host.reduce IntOp.andi x v reducesTo_S4x2048x1_S4x2048_d2 h_S_) main_v25 main_c_7
  let main_v27 : IVec S4x2048 1 := andi main_v16 main_v20
  let main_v28 : IVec S4x2048 1 := andi main_v27 main_v26
  let main_c_8 : IVec S_ 1 := constantI S_ 1 1#1
  let main_v29 : IVec S_ 1 := (fun x v => Host.reduce IntOp.andi x v reducesTo_S4x2048_S_d0_1 h_S_) main_v28 main_c_8
  main_v29

def fn {F : FTy → Type} [FloatOps F] (main_arg0 : FVec F S4x2048x1024 .f32) (main_arg1 : FVec F S1024x64 .f32) (main_arg2 : FVec F S64 .f32) : IVec S_ 1 :=
  let main_v0 : FVec F S4x2048x64 .f32 := (fun l r => Host.dotGeneral dot_S4x2048x1024_S1024x64_S4x2048x64_2_0_01_1_n_n none l r) main_arg0 main_arg1
  let main_v1 : FVec F S1x1x64 .f32 := broadcastInDim S1x1x64 ![2] bcast_S64_S1x1x64_2 main_arg2
  let main_v2 : FVec F S4x2048x64 .f32 := broadcastInDim S4x2048x64 ![0, 1, 2] bcast_S1x1x64_S4x2048x64_0_1_2 main_v1
  let main_v3 : FVec F S4x2048x64 .f32 := addf main_v0 main_v2
  let main_cst : FVec F S_ .f32 := constant S_ .f32 0xFF800000#32
  let main_v4 : FVec F S4x2048 .f32 := (fun x v => Host.reduce FloatOps.maximumf x v reducesTo_S4x2048x64_S4x2048_d2 h_S_) main_v3 main_cst
  let main_v5 : FVec F S4x2048x1 .f32 := broadcastInDim S4x2048x1 ![0, 1] bcast_S4x2048_S4x2048x1_0_1 main_v4
  let main_v6 : FVec F S4x2048x64 .f32 := broadcastInDim S4x2048x64 ![0, 1, 2] bcast_S4x2048x1_S4x2048x64_0_1_2 main_v5
  let main_v7 : IVec S4x2048x64 1 := cmpf .oeq main_v3 main_v6
  let main_cst_0 : FVec F S_ .f32 := constant S_ .f32 0xFF800000#32
  let main_v8 : FVec F S4x2048x64 .f32 := fn_where (F := F) main_v7 main_cst_0 main_v3
  let main_cst_1 : FVec F S_ .f32 := constant S_ .f32 0xFF800000#32
  let main_v9 : FVec F S4x2048 .f32 := (fun x v => Host.reduce FloatOps.maximumf x v reducesTo_S4x2048x64_S4x2048_d2 h_S_) main_v8 main_cst_1
  let main_v10 : FVec F S4x2048x1 .f32 := broadcastInDim S4x2048x1 ![0, 1] bcast_S4x2048_S4x2048x1_0_1 main_v9
  let main_v11 : FVec F S4x2048x64 .f32 := broadcastInDim S4x2048x64 ![0, 1, 2] bcast_S4x2048x1_S4x2048x64_0_1_2 main_v10
  let main_v12 : IVec S4x2048x64 1 := cmpf .oeq main_v3 main_v11
  let main_v13 : IVec S4x2048x64 32 := (extui 32 · natLt_1_32) main_v7
  let main_c : IVec S_ 32 := constantI S_ 32 0#32
  let main_v14 : IVec S4x2048 32 := (fun x v => Host.reduce IntOp.addi x v reducesTo_S4x2048x64_S4x2048_d2 h_S_) main_v13 main_c
  let main_c_2 : IVec S_ 32 := constantI S_ 32 1#32
  let main_v15 : IVec S4x2048 32 := broadcastInDim S4x2048 ![] bcast_S_S4x2048 main_c_2
  let main_v16 : IVec S4x2048 1 := cmpi .eq main_v14 main_v15
  let main_v17 : IVec S4x2048x64 32 := (extui 32 · natLt_1_32) main_v12
  let main_c_3 : IVec S_ 32 := constantI S_ 32 0#32
  fn_part1 (F := F) main_v5 main_v10 main_v16 main_v17 main_c_3
-- ==== Kernel.lean ====
abbrev S4x2048x1024 : Shape := ⟨3, ![4, 2048, 1024]⟩
abbrev S1024x64 : Shape := ⟨2, ![1024, 64]⟩
abbrev S64 : Shape := ⟨1, ![64]⟩
abbrev S8192x1024 : Shape := ⟨2, ![8192, 1024]⟩
abbrev S1x64 : Shape := ⟨2, ![1, 64]⟩
abbrev S8192x64 : Shape := ⟨2, ![8192, 64]⟩
abbrev S8192x2 : Shape := ⟨2, ![8192, 2]⟩
abbrev S4x2048x64 : Shape := ⟨3, ![4, 2048, 64]⟩
abbrev S4x2048x2 : Shape := ⟨3, ![4, 2048, 2]⟩
abbrev S2x2048x1024 : Shape := ⟨3, ![2, 2048, 1024]⟩
abbrev S2 : Shape := ⟨1, ![2]⟩
abbrev S2x2048x64 : Shape := ⟨3, ![2, 2048, 64]⟩
abbrev S2x2048x2 : Shape := ⟨3, ![2, 2048, 2]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S2048x64 : Shape := ⟨2, ![2048, 64]⟩
abbrev S2048 : Shape := ⟨1, ![2048]⟩
abbrev S2048x1 : Shape := ⟨2, ![2048, 1]⟩
abbrev S1x2048x64 : Shape := ⟨3, ![1, 2048, 64]⟩
abbrev S2048x2 : Shape := ⟨2, ![2048, 2]⟩
abbrev S1x2048x2 : Shape := ⟨3, ![1, 2048, 2]⟩

abbrev nBuf : Space → Nat
  | .hbm => 11
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S8192x1024, .f32⟩
  | .hbm, ⟨4, _⟩ => ⟨S1x64, .f32⟩
  | .hbm, ⟨5, _⟩ => ⟨S8192x64, .f32⟩
  | .hbm, ⟨6, _⟩ => ⟨S8192x2, .f32⟩
  | .hbm, ⟨7, _⟩ => ⟨S8192x2, .i32⟩
  | .hbm, ⟨8, _⟩ => ⟨S4x2048x64, .f32⟩
  | .hbm, ⟨9, _⟩ => ⟨S4x2048x2, .f32⟩
  | .hbm, ⟨10, _⟩ => ⟨S4x2048x2, .i32⟩
  | .local _ .vmem, ⟨0, _⟩ => ⟨S1024x64, .f32⟩
  | .local _ .vmem, ⟨1, _⟩ => ⟨S1x64, .f32⟩
  | .local _ .vmem, ⟨2, _⟩ => ⟨S2x2048x1024, .f32⟩
  | .local _ .vmem, ⟨3, _⟩ => ⟨S2x2048x64, .f32⟩
  | .local _ .vmem, ⟨4, _⟩ => ⟨S2x2048x2, .f32⟩
  | .local _ .vmem, ⟨5, _⟩ => ⟨S2x2048x2, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v2_2 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_scoped6 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_14_r0 : BitVec 32 := 0#32
  let c2_i32_r0 : BitVec 32 := 2#32
  let v17_r0 : BitVec 32 := Scalar.remui c0_i32_14_r0 c2_i32_r0
  ![v17_r0.toNat]
def k0_off2 : Fin 3 → Nat :=
  let c0_i32_14_r0 : BitVec 32 := 0#32
  let c2_i32_r0 : BitVec 32 := 2#32
  let v17_r0 : BitVec 32 := Scalar.remui c0_i32_14_r0 c2_i32_r0
  let c0_i32_15_r0 : BitVec 32 := 0#32
  let c0_i32_16_r0 : BitVec 32 := 0#32
  ![v17_r0.toNat, 0, 0]
@[reducible] def k0_t1_loop : Scf.Loop 32 :=
  let c0_i32_29_r0 : BitVec 32 := 0#32
  let c4_i32_30_r0 : BitVec 32 := 4#32
  let v24_r0 : BitVec 32 := Scalar.addi c0_i32_29_r0 c4_i32_30_r0
  let c1_i32_31_r0 : BitVec 32 := 1#32
  ⟨c0_i32_29_r0, v24_r0, c1_i32_31_r0⟩
def k0_off3 (arg7_r0 : BitVec 32) : Fin 1 → Nat :=
  let c2_i32_155_r0 : BitVec 32 := 2#32
  let v247_r0 : BitVec 32 := Scalar.remui arg7_r0 c2_i32_155_r0
  ![v247_r0.toNat]
def k0_cond1 (k0_t1 : Fin k0_t1_loop.trips) (arg15_r0 : BitVec 32) : BitVec 1 :=
  let c0_i32_69_r0 : BitVec 32 := 0#32
  let v69_r0 : BitVec 32 := Scalar.addi arg15_r0 c0_i32_69_r0
  let true_76_r0 : BitVec 1 := 1#1
  let c1_i32_75_r0 : BitVec 32 := 1#32
  let v75_r0 : BitVec 32 := Scalar.addi arg15_r0 c1_i32_75_r0
  let v76_r0 : BitVec 32 := Scalar.select true_76_r0 v75_r0 arg15_r0
  let c4_i32_77_r0 : BitVec 32 := 4#32
  let v77_r0 : BitVec 1 := Scalar.cmpi .eq v76_r0 c4_i32_77_r0
  let c0_i32_78_r0 : BitVec 32 := 0#32
  let v78_r0 : BitVec 32 := Scalar.select v77_r0 c0_i32_78_r0 v76_r0
  let c0_i32_79_r0 : BitVec 32 := 0#32
  let v79_r0 : BitVec 32 := Scalar.addi v78_r0 c0_i32_79_r0
  let v85_r0 : BitVec 1 := Scalar.cmpi .ne v69_r0 v79_r0
  let c0_i32_29_r0 : BitVec 32 := 0#32
  let c1_i32_31_r0 : BitVec 32 := 1#32
  let arg6_r0 : BitVec 32 := Scf.iv c0_i32_29_r0 c1_i32_31_r0 k0_t1
  let c3_i32_85_r0 : BitVec 32 := 3#32
  let v86_r0 : BitVec 1 := Scalar.cmpi .sge arg6_r0 c3_i32_85_r0
  let true_86_r0 : BitVec 1 := 1#1
  let v87_r0 : BitVec 1 := Scalar.xori v86_r0 true_86_r0
  let v88_r0 : BitVec 1 := Scalar.andi v85_r0 v87_r0
  let true_87_r0 : BitVec 1 := 1#1
  let v89_r0 : BitVec 1 := Scalar.andi v88_r0 true_87_r0
  let v90_r0 : BitVec 32 := Scalar.extui v89_r0
  let c0_i32_88_r0 : BitVec 32 := 0#32
  let v91_r0 : BitVec 1 := Scalar.cmpi .ne v90_r0 c0_i32_88_r0
  v91_r0

def k0_off4 (arg7_r0 : BitVec 32) : Fin 3 → Nat :=
  let c2_i32_155_r0 : BitVec 32 := 2#32
  let v247_r0 : BitVec 32 := Scalar.remui arg7_r0 c2_i32_155_r0
  let c0_i32_157_r0 : BitVec 32 := 0#32
  let c0_i32_158_r0 : BitVec 32 := 0#32
  ![v247_r0.toNat, 0, 0]
def k0_off5 (arg15_r0 : BitVec 32) : Fin 2 → Nat :=
  let c2048_i32_156_r0 : BitVec 32 := 2048#32
  let true_76_r0 : BitVec 1 := 1#1
  let c1_i32_75_r0 : BitVec 32 := 1#32
  let v75_r0 : BitVec 32 := Scalar.addi arg15_r0 c1_i32_75_r0
  let v76_r0 : BitVec 32 := Scalar.select true_76_r0 v75_r0 arg15_r0
  let c4_i32_77_r0 : BitVec 32 := 4#32
  let v77_r0 : BitVec 1 := Scalar.cmpi .eq v76_r0 c4_i32_77_r0
  let c0_i32_78_r0 : BitVec 32 := 0#32
  let v78_r0 : BitVec 32 := Scalar.select v77_r0 c0_i32_78_r0 v76_r0
  let c0_i32_79_r0 : BitVec 32 := 0#32
  let v79_r0 : BitVec 32 := Scalar.addi v78_r0 c0_i32_79_r0
  let v248_r0 : BitVec 32 := Scalar.muli c2048_i32_156_r0 v79_r0
  let c0_i32_159_r0 : BitVec 32 := 0#32
  ![v248_r0.toNat, 0]
def k0_off6 (arg8_r0 : BitVec 32) : Fin 1 → Nat :=
  let c2_i32_156_r0 : BitVec 32 := 2#32
  let v248_r0 : BitVec 32 := Scalar.remui arg8_r0 c2_i32_156_r0
  ![v248_r0.toNat]
def k0_cond2 (k0_t1 : Fin k0_t1_loop.trips) (arg15_r0 : BitVec 32) : BitVec 1 :=
  let c0_i32_69_r0 : BitVec 32 := 0#32
  let v69_r0 : BitVec 32 := Scalar.addi arg15_r0 c0_i32_69_r0
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v107_r0 : BitVec 1 := Scalar.cmpi .ne v69_r0 v74_r0
  let c0_i32_29_r0 : BitVec 32 := 0#32
  let c1_i32_31_r0 : BitVec 32 := 1#32
  let arg6_r0 : BitVec 32 := Scf.iv c0_i32_29_r0 c1_i32_31_r0 k0_t1
  let c0_i32_67_r0 : BitVec 32 := 0#32
  let v67_r0 : BitVec 1 := Scalar.cmpi .eq arg6_r0 c0_i32_67_r0
  let v108_r0 : BitVec 1 := Scalar.ori v107_r0 v67_r0
  let c0_i32_97_r0 : BitVec 32 := 0#32
  let v109_r0 : BitVec 1 := Scalar.cmpi .sge arg6_r0 c0_i32_97_r0
  let v110_r0 : BitVec 1 := Scalar.andi v108_r0 v109_r0
  let v111_r0 : BitVec 32 := Scalar.extui v110_r0
  let c0_i32_98_r0 : BitVec 32 := 0#32
  let v112_r0 : BitVec 1 := Scalar.cmpi .ne v111_r0 c0_i32_98_r0
  v112_r0

def k0_off7 (arg8_r0 : BitVec 32) : Fin 3 → Nat :=
  let c2_i32_156_r0 : BitVec 32 := 2#32
  let v248_r0 : BitVec 32 := Scalar.remui arg8_r0 c2_i32_156_r0
  let c0_i32_157_r0 : BitVec 32 := 0#32
  let c0_i32_158_r0 : BitVec 32 := 0#32
  ![v248_r0.toNat, 0, 0]
def k0_off8 (arg15_r0 : BitVec 32) : Fin 2 → Nat :=
  let c2048_i32_155_r0 : BitVec 32 := 2048#32
  let c0_i32_69_r0 : BitVec 32 := 0#32
  let v69_r0 : BitVec 32 := Scalar.addi arg15_r0 c0_i32_69_r0
  let v247_r0 : BitVec 32 := Scalar.muli c2048_i32_155_r0 v69_r0
  let c0_i32_159_r0 : BitVec 32 := 0#32
  ![v247_r0.toNat, 0]
def k0_off9 (arg8_r0 : BitVec 32) : Fin 3 → Nat :=
  let c2_i32_105_r0 : BitVec 32 := 2#32
  let v131_r0 : BitVec 32 := Scalar.remui arg8_r0 c2_i32_105_r0
  let v135_r0 : Index := Scalar.indexCast v131_r0
  let c0_r0 : Index := 0#32
  let c0_109_r0 : Index := 0#32
  ![v135_r0.toNat, 0, 0]

def k0_chk2 (arg8_r0 : BitVec 32) : Prop :=
  (∀ a, (k0_off9 arg8_r0) a + S1x2048x1024.size a ≤ S2x2048x1024.size a)
theorem k0_off9_inb : ∀ (arg8_r0 : BitVec 32) (k0_hw2 : k0_chk2 arg8_r0), ∀ a, (k0_off9 arg8_r0) a + S1x2048x1024.size a ≤ S2x2048x1024.size a := fun arg8_r0 k0_hw2 => k0_hw2

def k0_off10 (arg9_r0 : BitVec 32) : Fin 3 → Nat :=
  let c2_i32_106_r0 : BitVec 32 := 2#32
  let v132_r0 : BitVec 32 := Scalar.remui arg9_r0 c2_i32_106_r0
  let v155_r0 : Index := Scalar.indexCast v132_r0
  let c0_117_r0 : Index := 0#32
  let c0_118_r0 : Index := 0#32
  ![v155_r0.toNat, 0, 0]

def k0_chk3 (arg9_r0 : BitVec 32) : Prop :=
  (∀ a, (k0_off10 arg9_r0) a + S1x2048x64.size a ≤ S2x2048x64.size a)
theorem k0_off10_inb : ∀ (arg9_r0 : BitVec 32) (k0_hw3 : k0_chk3 arg9_r0), ∀ a, (k0_off10 arg9_r0) a + S1x2048x64.size a ≤ S2x2048x64.size a := fun arg9_r0 k0_hw3 => k0_hw3

def k0_off11 (arg11_r0 : BitVec 32) : Fin 3 → Nat :=
  let c2_i32_107_r0 : BitVec 32 := 2#32
  let v133_r0 : BitVec 32 := Scalar.remui arg11_r0 c2_i32_107_r0
  let v174_r0 : Index := Scalar.indexCast v133_r0
  let c0_121_r0 : Index := 0#32
  let c0_122_r0 : Index := 0#32
  ![v174_r0.toNat, 0, 0]

def k0_chk4 (arg11_r0 : BitVec 32) : Prop :=
  (∀ a, (k0_off11 arg11_r0) a + S1x2048x2.size a ≤ S2x2048x2.size a)
theorem k0_off11_inb : ∀ (arg11_r0 : BitVec 32) (k0_hw4 : k0_chk4 arg11_r0), ∀ a, (k0_off11 arg11_r0) a + S1x2048x2.size a ≤ S2x2048x2.size a := fun arg11_r0 k0_hw4 => k0_hw4

def k0_off12 (arg13_r0 : BitVec 32) : Fin 3 → Nat :=
  let c2_i32_108_r0 : BitVec 32 := 2#32
  let v134_r0 : BitVec 32 := Scalar.remui arg13_r0 c2_i32_108_r0
  let v179_r0 : Index := Scalar.indexCast v134_r0
  let c0_123_r0 : Index := 0#32
  let c0_124_r0 : Index := 0#32
  ![v179_r0.toNat, 0, 0]

def k0_chk5 (arg13_r0 : BitVec 32) : Prop :=
  (∀ a, (k0_off12 arg13_r0) a + S1x2048x2.size a ≤ S2x2048x2.size a)
theorem k0_off12_inb : ∀ (arg13_r0 : BitVec 32) (k0_hw5 : k0_chk5 arg13_r0), ∀ a, (k0_off12 arg13_r0) a + S1x2048x2.size a ≤ S2x2048x2.size a := fun arg13_r0 k0_hw5 => k0_hw5

def k0_off13 (arg9_r0 : BitVec 32) : Fin 1 → Nat :=
  let c2_i32_155_r0 : BitVec 32 := 2#32
  let v247_r0 : BitVec 32 := Scalar.remui arg9_r0 c2_i32_155_r0
  ![v247_r0.toNat]
def k0_cond7 (k0_t1 : Fin k0_t1_loop.trips) (arg15_r0 : BitVec 32) : BitVec 1 :=
  let c0_i32_69_r0 : BitVec 32 := 0#32
  let v69_r0 : BitVec 32 := Scalar.addi arg15_r0 c0_i32_69_r0
  let true_76_r0 : BitVec 1 := 1#1
  let c1_i32_75_r0 : BitVec 32 := 1#32
  let v75_r0 : BitVec 32 := Scalar.addi arg15_r0 c1_i32_75_r0
  let v76_r0 : BitVec 32 := Scalar.select true_76_r0 v75_r0 arg15_r0
  let c4_i32_77_r0 : BitVec 32 := 4#32
  let v77_r0 : BitVec 1 := Scalar.cmpi .eq v76_r0 c4_i32_77_r0
  let c0_i32_78_r0 : BitVec 32 := 0#32
  let v78_r0 : BitVec 32 := Scalar.select v77_r0 c0_i32_78_r0 v76_r0
  let c0_i32_79_r0 : BitVec 32 := 0#32
  let v79_r0 : BitVec 32 := Scalar.addi v78_r0 c0_i32_79_r0
  let v188_r0 : BitVec 1 := Scalar.cmpi .ne v69_r0 v79_r0
  let c0_i32_29_r0 : BitVec 32 := 0#32
  let c1_i32_31_r0 : BitVec 32 := 1#32
  let arg6_r0 : BitVec 32 := Scf.iv c0_i32_29_r0 c1_i32_31_r0 k0_t1
  let c3_i32_68_r0 : BitVec 32 := 3#32
  let v68_r0 : BitVec 1 := Scalar.cmpi .eq arg6_r0 c3_i32_68_r0
  let v189_r0 : BitVec 1 := Scalar.ori v188_r0 v68_r0
  let v190_r0 : BitVec 32 := Scalar.extui v189_r0
  let c0_i32_126_r0 : BitVec 32 := 0#32
  let v191_r0 : BitVec 1 := Scalar.cmpi .ne v190_r0 c0_i32_126_r0
  v191_r0

def k0_off14 (arg15_r0 : BitVec 32) : Fin 2 → Nat :=
  let c2048_i32_156_r0 : BitVec 32 := 2048#32
  let c0_i32_69_r0 : BitVec 32 := 0#32
  let v69_r0 : BitVec 32 := Scalar.addi arg15_r0 c0_i32_69_r0
  let v248_r0 : BitVec 32 := Scalar.muli c2048_i32_156_r0 v69_r0
  let c0_i32_157_r0 : BitVec 32 := 0#32
  ![v248_r0.toNat, 0]
def k0_off15 (arg9_r0 : BitVec 32) : Fin 3 → Nat :=
  let c2_i32_155_r0 : BitVec 32 := 2#32
  let v247_r0 : BitVec 32 := Scalar.remui arg9_r0 c2_i32_155_r0
  let c0_i32_158_r0 : BitVec 32 := 0#32
  let c0_i32_159_r0 : BitVec 32 := 0#32
  ![v247_r0.toNat, 0, 0]
def k0_off16 (arg11_r0 : BitVec 32) : Fin 1 → Nat :=
  let c2_i32_155_r0 : BitVec 32 := 2#32
  let v247_r0 : BitVec 32 := Scalar.remui arg11_r0 c2_i32_155_r0
  ![v247_r0.toNat]
def k0_cond8 (k0_t1 : Fin k0_t1_loop.trips) (arg15_r0 : BitVec 32) : BitVec 1 :=
  let c0_i32_69_r0 : BitVec 32 := 0#32
  let v69_r0 : BitVec 32 := Scalar.addi arg15_r0 c0_i32_69_r0
  let true_76_r0 : BitVec 1 := 1#1
  let c1_i32_75_r0 : BitVec 32 := 1#32
  let v75_r0 : BitVec 32 := Scalar.addi arg15_r0 c1_i32_75_r0
  let v76_r0 : BitVec 32 := Scalar.select true_76_r0 v75_r0 arg15_r0
  let c4_i32_77_r0 : BitVec 32 := 4#32
  let v77_r0 : BitVec 1 := Scalar.cmpi .eq v76_r0 c4_i32_77_r0
  let c0_i32_78_r0 : BitVec 32 := 0#32
  let v78_r0 : BitVec 32 := Scalar.select v77_r0 c0_i32_78_r0 v76_r0
  let c0_i32_79_r0 : BitVec 32 := 0#32
  let v79_r0 : BitVec 32 := Scalar.addi v78_r0 c0_i32_79_r0
  let v195_r0 : BitVec 1 := Scalar.cmpi .ne v69_r0 v79_r0
  let c0_i32_29_r0 : BitVec 32 := 0#32
  let c1_i32_31_r0 : BitVec 32 := 1#32
  let arg6_r0 : BitVec 32 := Scf.iv c0_i32_29_r0 c1_i32_31_r0 k0_t1
  let c3_i32_68_r0 : BitVec 32 := 3#32
  let v68_r0 : BitVec 1 := Scalar.cmpi .eq arg6_r0 c3_i32_68_r0
  let v196_r0 : BitVec 1 := Scalar.ori v195_r0 v68_r0
  let v197_r0 : BitVec 32 := Scalar.extui v196_r0
  let c0_i32_129_r0 : BitVec 32 := 0#32
  let v198_r0 : BitVec 1 := Scalar.cmpi .ne v197_r0 c0_i32_129_r0
  v198_r0

def k0_off17 (arg15_r0 : BitVec 32) : Fin 2 → Nat :=
  let c2048_i32_156_r0 : BitVec 32 := 2048#32
  let c0_i32_69_r0 : BitVec 32 := 0#32
  let v69_r0 : BitVec 32 := Scalar.addi arg15_r0 c0_i32_69_r0
  let v248_r0 : BitVec 32 := Scalar.muli c2048_i32_156_r0 v69_r0
  let c0_i32_157_r0 : BitVec 32 := 0#32
  ![v248_r0.toNat, 0]
def k0_off18 (arg11_r0 : BitVec 32) : Fin 3 → Nat :=
  let c2_i32_155_r0 : BitVec 32 := 2#32
  let v247_r0 : BitVec 32 := Scalar.remui arg11_r0 c2_i32_155_r0
  let c0_i32_158_r0 : BitVec 32 := 0#32
  let c0_i32_159_r0 : BitVec 32 := 0#32
  ![v247_r0.toNat, 0, 0]
def k0_off19 (arg13_r0 : BitVec 32) : Fin 1 → Nat :=
  let c2_i32_155_r0 : BitVec 32 := 2#32
  let v247_r0 : BitVec 32 := Scalar.remui arg13_r0 c2_i32_155_r0
  ![v247_r0.toNat]
def k0_cond9 (k0_t1 : Fin k0_t1_loop.trips) (arg15_r0 : BitVec 32) : BitVec 1 :=
  let c0_i32_69_r0 : BitVec 32 := 0#32
  let v69_r0 : BitVec 32 := Scalar.addi arg15_r0 c0_i32_69_r0
  let true_76_r0 : BitVec 1 := 1#1
  let c1_i32_75_r0 : BitVec 32 := 1#32
  let v75_r0 : BitVec 32 := Scalar.addi arg15_r0 c1_i32_75_r0
  let v76_r0 : BitVec 32 := Scalar.select true_76_r0 v75_r0 arg15_r0
  let c4_i32_77_r0 : BitVec 32 := 4#32
  let v77_r0 : BitVec 1 := Scalar.cmpi .eq v76_r0 c4_i32_77_r0
  let c0_i32_78_r0 : BitVec 32 := 0#32
  let v78_r0 : BitVec 32 := Scalar.select v77_r0 c0_i32_78_r0 v76_r0
  let c0_i32_79_r0 : BitVec 32 := 0#32
  let v79_r0 : BitVec 32 := Scalar.addi v78_r0 c0_i32_79_r0
  let v202_r0 : BitVec 1 := Scalar.cmpi .ne v69_r0 v79_r0
  let c0_i32_29_r0 : BitVec 32 := 0#32
  let c1_i32_31_r0 : BitVec 32 := 1#32
  let arg6_r0 : BitVec 32 := Scf.iv c0_i32_29_r0 c1_i32_31_r0 k0_t1
  let c3_i32_68_r0 : BitVec 32 := 3#32
  let v68_r0 : BitVec 1 := Scalar.cmpi .eq arg6_r0 c3_i32_68_r0
  let v203_r0 : BitVec 1 := Scalar.ori v202_r0 v68_r0
  let v204_r0 : BitVec 32 := Scalar.extui v203_r0
  let c0_i32_132_r0 : BitVec 32 := 0#32
  let v205_r0 : BitVec 1 := Scalar.cmpi .ne v204_r0 c0_i32_132_r0
  v205_r0

def k0_off20 (arg15_r0 : BitVec 32) : Fin 2 → Nat :=
  let c2048_i32_156_r0 : BitVec 32 := 2048#32
  let c0_i32_69_r0 : BitVec 32 := 0#32
  let v69_r0 : BitVec 32 := Scalar.addi arg15_r0 c0_i32_69_r0
  let v248_r0 : BitVec 32 := Scalar.muli c2048_i32_156_r0 v69_r0
  let c0_i32_157_r0 : BitVec 32 := 0#32
  ![v248_r0.toNat, 0]
def k0_off21 (arg13_r0 : BitVec 32) : Fin 3 → Nat :=
  let c2_i32_155_r0 : BitVec 32 := 2#32
  let v247_r0 : BitVec 32 := Scalar.remui arg13_r0 c2_i32_155_r0
  let c0_i32_158_r0 : BitVec 32 := 0#32
  let c0_i32_159_r0 : BitVec 32 := 0#32
  ![v247_r0.toNat, 0, 0]
def k0_off22 (arg10_r0 : BitVec 32) : Fin 1 → Nat :=
  let c2_i32_155_r0 : BitVec 32 := 2#32
  let v247_r0 : BitVec 32 := Scalar.remui arg10_r0 c2_i32_155_r0
  ![v247_r0.toNat]
def k0_cond11 (k0_t1 : Fin k0_t1_loop.trips) (arg15_r0 : BitVec 32) : BitVec 1 :=
  let c0_i32_69_r0 : BitVec 32 := 0#32
  let v69_r0 : BitVec 32 := Scalar.addi arg15_r0 c0_i32_69_r0
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v215_r0 : BitVec 1 := Scalar.cmpi .ne v69_r0 v74_r0
  let c0_i32_29_r0 : BitVec 32 := 0#32
  let c1_i32_31_r0 : BitVec 32 := 1#32
  let arg6_r0 : BitVec 32 := Scf.iv c0_i32_29_r0 c1_i32_31_r0 k0_t1
  let c0_i32_67_r0 : BitVec 32 := 0#32
  let v67_r0 : BitVec 1 := Scalar.cmpi .eq arg6_r0 c0_i32_67_r0
  let true_138_r0 : BitVec 1 := 1#1
  let v216_r0 : BitVec 1 := Scalar.xori v67_r0 true_138_r0
  let v217_r0 : BitVec 1 := Scalar.andi v215_r0 v216_r0
  let v218_r0 : BitVec 32 := Scalar.extui v217_r0
  let c0_i32_139_r0 : BitVec 32 := 0#32
  let v219_r0 : BitVec 1 := Scalar.cmpi .ne v218_r0 c0_i32_139_r0
  v219_r0

def k0_off23 (arg15_r0 : BitVec 32) : Fin 2 → Nat :=
  let c2048_i32_156_r0 : BitVec 32 := 2048#32
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v248_r0 : BitVec 32 := Scalar.muli c2048_i32_156_r0 v74_r0
  let c0_i32_157_r0 : BitVec 32 := 0#32
  ![v248_r0.toNat, 0]
def k0_off24 (arg10_r0 : BitVec 32) : Fin 3 → Nat :=
  let c2_i32_155_r0 : BitVec 32 := 2#32
  let v247_r0 : BitVec 32 := Scalar.remui arg10_r0 c2_i32_155_r0
  let c0_i32_158_r0 : BitVec 32 := 0#32
  let c0_i32_159_r0 : BitVec 32 := 0#32
  ![v247_r0.toNat, 0, 0]
def k0_off25 (arg12_r0 : BitVec 32) : Fin 1 → Nat :=
  let c2_i32_155_r0 : BitVec 32 := 2#32
  let v247_r0 : BitVec 32 := Scalar.remui arg12_r0 c2_i32_155_r0
  ![v247_r0.toNat]
def k0_cond12 (k0_t1 : Fin k0_t1_loop.trips) (arg15_r0 : BitVec 32) : BitVec 1 :=
  let c0_i32_69_r0 : BitVec 32 := 0#32
  let v69_r0 : BitVec 32 := Scalar.addi arg15_r0 c0_i32_69_r0
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v223_r0 : BitVec 1 := Scalar.cmpi .ne v69_r0 v74_r0
  let c0_i32_29_r0 : BitVec 32 := 0#32
  let c1_i32_31_r0 : BitVec 32 := 1#32
  let arg6_r0 : BitVec 32 := Scf.iv c0_i32_29_r0 c1_i32_31_r0 k0_t1
  let c0_i32_67_r0 : BitVec 32 := 0#32
  let v67_r0 : BitVec 1 := Scalar.cmpi .eq arg6_r0 c0_i32_67_r0
  let true_142_r0 : BitVec 1 := 1#1
  let v224_r0 : BitVec 1 := Scalar.xori v67_r0 true_142_r0
  let v225_r0 : BitVec 1 := Scalar.andi v223_r0 v224_r0
  let v226_r0 : BitVec 32 := Scalar.extui v225_r0
  let c0_i32_143_r0 : BitVec 32 := 0#32
  let v227_r0 : BitVec 1 := Scalar.cmpi .ne v226_r0 c0_i32_143_r0
  v227_r0

def k0_off26 (arg15_r0 : BitVec 32) : Fin 2 → Nat :=
  let c2048_i32_156_r0 : BitVec 32 := 2048#32
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v248_r0 : BitVec 32 := Scalar.muli c2048_i32_156_r0 v74_r0
  let c0_i32_157_r0 : BitVec 32 := 0#32
  ![v248_r0.toNat, 0]
def k0_off27 (arg12_r0 : BitVec 32) : Fin 3 → Nat :=
  let c2_i32_155_r0 : BitVec 32 := 2#32
  let v247_r0 : BitVec 32 := Scalar.remui arg12_r0 c2_i32_155_r0
  let c0_i32_158_r0 : BitVec 32 := 0#32
  let c0_i32_159_r0 : BitVec 32 := 0#32
  ![v247_r0.toNat, 0, 0]
def k0_off28 (arg14_r0 : BitVec 32) : Fin 1 → Nat :=
  let c2_i32_155_r0 : BitVec 32 := 2#32
  let v247_r0 : BitVec 32 := Scalar.remui arg14_r0 c2_i32_155_r0
  ![v247_r0.toNat]
def k0_cond13 (k0_t1 : Fin k0_t1_loop.trips) (arg15_r0 : BitVec 32) : BitVec 1 :=
  let c0_i32_69_r0 : BitVec 32 := 0#32
  let v69_r0 : BitVec 32 := Scalar.addi arg15_r0 c0_i32_69_r0
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v231_r0 : BitVec 1 := Scalar.cmpi .ne v69_r0 v74_r0
  let c0_i32_29_r0 : BitVec 32 := 0#32
  let c1_i32_31_r0 : BitVec 32 := 1#32
  let arg6_r0 : BitVec 32 := Scf.iv c0_i32_29_r0 c1_i32_31_r0 k0_t1
  let c0_i32_67_r0 : BitVec 32 := 0#32
  let v67_r0 : BitVec 1 := Scalar.cmpi .eq arg6_r0 c0_i32_67_r0
  let true_146_r0 : BitVec 1 := 1#1
  let v232_r0 : BitVec 1 := Scalar.xori v67_r0 true_146_r0
  let v233_r0 : BitVec 1 := Scalar.andi v231_r0 v232_r0
  let v234_r0 : BitVec 32 := Scalar.extui v233_r0
  let c0_i32_147_r0 : BitVec 32 := 0#32
  let v235_r0 : BitVec 1 := Scalar.cmpi .ne v234_r0 c0_i32_147_r0
  v235_r0

def k0_off29 (arg15_r0 : BitVec 32) : Fin 2 → Nat :=
  let c2048_i32_156_r0 : BitVec 32 := 2048#32
  let true_71_r0 : BitVec 1 := 1#1
  let c1_i32_70_r0 : BitVec 32 := 1#32
  let v70_r0 : BitVec 32 := Scalar.subi arg15_r0 c1_i32_70_r0
  let v71_r0 : BitVec 32 := Scalar.select true_71_r0 v70_r0 arg15_r0
  let c_m1_i32_72_r0 : BitVec 32 := 4294967295#32
  let v72_r0 : BitVec 1 := Scalar.cmpi .eq v71_r0 c_m1_i32_72_r0
  let c3_i32_73_r0 : BitVec 32 := 3#32
  let v73_r0 : BitVec 32 := Scalar.select v72_r0 c3_i32_73_r0 v71_r0
  let c0_i32_74_r0 : BitVec 32 := 0#32
  let v74_r0 : BitVec 32 := Scalar.addi v73_r0 c0_i32_74_r0
  let v248_r0 : BitVec 32 := Scalar.muli c2048_i32_156_r0 v74_r0
  let c0_i32_157_r0 : BitVec 32 := 0#32
  ![v248_r0.toNat, 0]
def k0_off30 (arg14_r0 : BitVec 32) : Fin 3 → Nat :=
  let c2_i32_155_r0 : BitVec 32 := 2#32
  let v247_r0 : BitVec 32 := Scalar.remui arg14_r0 c2_i32_155_r0
  let c0_i32_158_r0 : BitVec 32 := 0#32
  let c0_i32_159_r0 : BitVec 32 := 0#32
  ![v247_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h1 : k0_cond1 k0_t1 arg15_r0 = 1#1), ∀ a, (k0_off3 arg7_r0) a + S1.size a ≤ S2.size a) ∧
  (∀ (k0_h1 : k0_cond1 k0_t1 arg15_r0 = 1#1), ∀ a, (k0_off4 arg7_r0) a + S1x2048x1024.size a ≤ S2x2048x1024.size a) ∧
  (∀ (k0_h1 : k0_cond1 k0_t1 arg15_r0 = 1#1), ∀ a, (k0_off5 arg15_r0) a + S2048x1024.size a ≤ S8192x1024.size a) ∧
  (∀ (k0_h2 : k0_cond2 k0_t1 arg15_r0 = 1#1), ∀ a, (k0_off6 arg8_r0) a + S1.size a ≤ S2.size a) ∧
  (∀ (k0_h2 : k0_cond2 k0_t1 arg15_r0 = 1#1), ∀ a, (k0_off7 arg8_r0) a + S1x2048x1024.size a ≤ S2x2048x1024.size a) ∧
  (∀ (k0_h2 : k0_cond2 k0_t1 arg15_r0 = 1#1), ∀ a, (k0_off8 arg15_r0) a + S2048x1024.size a ≤ S8192x1024.size a) ∧
  (∀ (k0_h7 : k0_cond7 k0_t1 arg15_r0 = 1#1), ∀ a, (k0_off13 arg9_r0) a + S1.size a ≤ S2.size a) ∧
  (∀ (k0_h7 : k0_cond7 k0_t1 arg15_r0 = 1#1), ∀ a, (k0_off14 arg15_r0) a + S2048x64.size a ≤ S8192x64.size a) ∧
  (∀ (k0_h7 : k0_cond7 k0_t1 arg15_r0 = 1#1), ∀ a, (k0_off15 arg9_r0) a + S1x2048x64.size a ≤ S2x2048x64.size a) ∧
  (∀ (k0_h8 : k0_cond8 k0_t1 arg15_r0 = 1#1), ∀ a, (k0_off16 arg11_r0) a + S1.size a ≤ S2.size a) ∧
  (∀ (k0_h8 : k0_cond8 k0_t1 arg15_r0 = 1#1), ∀ a, (k0_off17 arg15_r0) a + S2048x2.size a ≤ S8192x2.size a) ∧
  (∀ (k0_h8 : k0_cond8 k0_t1 arg15_r0 = 1#1), ∀ a, (k0_off18 arg11_r0) a + S1x2048x2.size a ≤ S2x2048x2.size a) ∧
  (∀ (k0_h9 : k0_cond9 k0_t1 arg15_r0 = 1#1), ∀ a, (k0_off19 arg13_r0) a + S1.size a ≤ S2.size a) ∧
  (∀ (k0_h9 : k0_cond9 k0_t1 arg15_r0 = 1#1), ∀ a, (k0_off20 arg15_r0) a + S2048x2.size a ≤ S8192x2.size a) ∧
  (∀ (k0_h9 : k0_cond9 k0_t1 arg15_r0 = 1#1), ∀ a, (k0_off21 arg13_r0) a + S1x2048x2.size a ≤ S2x2048x2.size a) ∧
  (∀ (k0_h11 : k0_cond11 k0_t1 arg15_r0 = 1#1), ∀ a, (k0_off22 arg10_r0) a + S1.size a ≤ S2.size a) ∧
  (∀ (k0_h11 : k0_cond11 k0_t1 arg15_r0 = 1#1), ∀ a, (k0_off23 arg15_r0) a + S2048x64.size a ≤ S8192x64.size a) ∧
  (∀ (k0_h11 : k0_cond11 k0_t1 arg15_r0 = 1#1), ∀ a, (k0_off24 arg10_r0) a + S1x2048x64.size a ≤ S2x2048x64.size a) ∧
  (∀ (k0_h12 : k0_cond12 k0_t1 arg15_r0 = 1#1), ∀ a, (k0_off25 arg12_r0) a + S1.size a ≤ S2.size a) ∧
  (∀ (k0_h12 : k0_cond12 k0_t1 arg15_r0 = 1#1), ∀ a, (k0_off26 arg15_r0) a + S2048x2.size a ≤ S8192x2.size a) ∧
  (∀ (k0_h12 : k0_cond12 k0_t1 arg15_r0 = 1#1), ∀ a, (k0_off27 arg12_r0) a + S1x2048x2.size a ≤ S2x2048x2.size a) ∧
  (∀ (k0_h13 : k0_cond13 k0_t1 arg15_r0 = 1#1), ∀ a, (k0_off28 arg14_r0) a + S1.size a ≤ S2.size a) ∧
  (∀ (k0_h13 : k0_cond13 k0_t1 arg15_r0 = 1#1), ∀ a, (k0_off29 arg15_r0) a + S2048x2.size a ≤ S8192x2.size a) ∧
  (∀ (k0_h13 : k0_cond13 k0_t1 arg15_r0 = 1#1), ∀ a, (k0_off30 arg14_r0) a + S1x2048x2.size a ≤ S2x2048x2.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h1 : k0_cond1 k0_t1 arg15_r0 = 1#1), ∀ a, (k0_off3 arg7_r0) a + S1.size a ≤ S2.size a := fun k0_t1 arg7_r0 arg8_r0 arg9_r0 arg10_r0 arg11_r0 arg12_r0 arg13_r0 arg14_r0 arg15_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h1 : k0_cond1 k0_t1 arg15_r0 = 1#1), ∀ a, (k0_off4 arg7_r0) a + S1x2048x1024.size a ≤ S2x2048x1024.size a := fun k0_t1 arg7_r0 arg8_r0 arg9_r0 arg10_r0 arg11_r0 arg12_r0 arg13_r0 arg14_r0 arg15_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h1 : k0_cond1 k0_t1 arg15_r0 = 1#1), ∀ a, (k0_off5 arg15_r0) a + S2048x1024.size a ≤ S8192x1024.size a := fun k0_t1 arg7_r0 arg8_r0 arg9_r0 arg10_r0 arg11_r0 arg12_r0 arg13_r0 arg14_r0 arg15_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h2 : k0_cond2 k0_t1 arg15_r0 = 1#1), ∀ a, (k0_off6 arg8_r0) a + S1.size a ≤ S2.size a := fun k0_t1 arg7_r0 arg8_r0 arg9_r0 arg10_r0 arg11_r0 arg12_r0 arg13_r0 arg14_r0 arg15_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h2 : k0_cond2 k0_t1 arg15_r0 = 1#1), ∀ a, (k0_off7 arg8_r0) a + S1x2048x1024.size a ≤ S2x2048x1024.size a := fun k0_t1 arg7_r0 arg8_r0 arg9_r0 arg10_r0 arg11_r0 arg12_r0 arg13_r0 arg14_r0 arg15_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h2 : k0_cond2 k0_t1 arg15_r0 = 1#1), ∀ a, (k0_off8 arg15_r0) a + S2048x1024.size a ≤ S8192x1024.size a := fun k0_t1 arg7_r0 arg8_r0 arg9_r0 arg10_r0 arg11_r0 arg12_r0 arg13_r0 arg14_r0 arg15_r0 k0_hw1 k0_h2 => k0_hw1.2.2.2.2.2.1 k0_h2
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h7 : k0_cond7 k0_t1 arg15_r0 = 1#1), ∀ a, (k0_off13 arg9_r0) a + S1.size a ≤ S2.size a := fun k0_t1 arg7_r0 arg8_r0 arg9_r0 arg10_r0 arg11_r0 arg12_r0 arg13_r0 arg14_r0 arg15_r0 k0_hw1 k0_h7 => k0_hw1.2.2.2.2.2.2.1 k0_h7
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h7 : k0_cond7 k0_t1 arg15_r0 = 1#1), ∀ a, (k0_off14 arg15_r0) a + S2048x64.size a ≤ S8192x64.size a := fun k0_t1 arg7_r0 arg8_r0 arg9_r0 arg10_r0 arg11_r0 arg12_r0 arg13_r0 arg14_r0 arg15_r0 k0_hw1 k0_h7 => k0_hw1.2.2.2.2.2.2.2.1 k0_h7
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h7 : k0_cond7 k0_t1 arg15_r0 = 1#1), ∀ a, (k0_off15 arg9_r0) a + S1x2048x64.size a ≤ S2x2048x64.size a := fun k0_t1 arg7_r0 arg8_r0 arg9_r0 arg10_r0 arg11_r0 arg12_r0 arg13_r0 arg14_r0 arg15_r0 k0_hw1 k0_h7 => k0_hw1.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h8 : k0_cond8 k0_t1 arg15_r0 = 1#1), ∀ a, (k0_off16 arg11_r0) a + S1.size a ≤ S2.size a := fun k0_t1 arg7_r0 arg8_r0 arg9_r0 arg10_r0 arg11_r0 arg12_r0 arg13_r0 arg14_r0 arg15_r0 k0_hw1 k0_h8 => k0_hw1.2.2.2.2.2.2.2.2.2.1 k0_h8
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h8 : k0_cond8 k0_t1 arg15_r0 = 1#1), ∀ a, (k0_off17 arg15_r0) a + S2048x2.size a ≤ S8192x2.size a := fun k0_t1 arg7_r0 arg8_r0 arg9_r0 arg10_r0 arg11_r0 arg12_r0 arg13_r0 arg14_r0 arg15_r0 k0_hw1 k0_h8 => k0_hw1.2.2.2.2.2.2.2.2.2.2.1 k0_h8
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h8 : k0_cond8 k0_t1 arg15_r0 = 1#1), ∀ a, (k0_off18 arg11_r0) a + S1x2048x2.size a ≤ S2x2048x2.size a := fun k0_t1 arg7_r0 arg8_r0 arg9_r0 arg10_r0 arg11_r0 arg12_r0 arg13_r0 arg14_r0 arg15_r0 k0_hw1 k0_h8 => k0_hw1.2.2.2.2.2.2.2.2.2.2.2.1 k0_h8
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h9 : k0_cond9 k0_t1 arg15_r0 = 1#1), ∀ a, (k0_off19 arg13_r0) a + S1.size a ≤ S2.size a := fun k0_t1 arg7_r0 arg8_r0 arg9_r0 arg10_r0 arg11_r0 arg12_r0 arg13_r0 arg14_r0 arg15_r0 k0_hw1 k0_h9 => k0_hw1.2.2.2.2.2.2.2.2.2.2.2.2.1 k0_h9
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h9 : k0_cond9 k0_t1 arg15_r0 = 1#1), ∀ a, (k0_off20 arg15_r0) a + S2048x2.size a ≤ S8192x2.size a := fun k0_t1 arg7_r0 arg8_r0 arg9_r0 arg10_r0 arg11_r0 arg12_r0 arg13_r0 arg14_r0 arg15_r0 k0_hw1 k0_h9 => k0_hw1.2.2.2.2.2.2.2.2.2.2.2.2.2.1 k0_h9
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h9 : k0_cond9 k0_t1 arg15_r0 = 1#1), ∀ a, (k0_off21 arg13_r0) a + S1x2048x2.size a ≤ S2x2048x2.size a := fun k0_t1 arg7_r0 arg8_r0 arg9_r0 arg10_r0 arg11_r0 arg12_r0 arg13_r0 arg14_r0 arg15_r0 k0_hw1 k0_h9 => k0_hw1.2.2.2.2.2.2.2.2.2.2.2.2.2.2.1 k0_h9
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h11 : k0_cond11 k0_t1 arg15_r0 = 1#1), ∀ a, (k0_off22 arg10_r0) a + S1.size a ≤ S2.size a := fun k0_t1 arg7_r0 arg8_r0 arg9_r0 arg10_r0 arg11_r0 arg12_r0 arg13_r0 arg14_r0 arg15_r0 k0_hw1 k0_h11 => k0_hw1.2.2.2.2.2.2.2.2.2.2.2.2.2.2.2.1 k0_h11
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h11 : k0_cond11 k0_t1 arg15_r0 = 1#1), ∀ a, (k0_off23 arg15_r0) a + S2048x64.size a ≤ S8192x64.size a := fun k0_t1 arg7_r0 arg8_r0 arg9_r0 arg10_r0 arg11_r0 arg12_r0 arg13_r0 arg14_r0 arg15_r0 k0_hw1 k0_h11 => k0_hw1.2.2.2.2.2.2.2.2.2.2.2.2.2.2.2.2.1 k0_h11
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h11 : k0_cond11 k0_t1 arg15_r0 = 1#1), ∀ a, (k0_off24 arg10_r0) a + S1x2048x64.size a ≤ S2x2048x64.size a := fun k0_t1 arg7_r0 arg8_r0 arg9_r0 arg10_r0 arg11_r0 arg12_r0 arg13_r0 arg14_r0 arg15_r0 k0_hw1 k0_h11 => k0_hw1.2.2.2.2.2.2.2.2.2.2.2.2.2.2.2.2.2.1 k0_h11
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h12 : k0_cond12 k0_t1 arg15_r0 = 1#1), ∀ a, (k0_off25 arg12_r0) a + S1.size a ≤ S2.size a := fun k0_t1 arg7_r0 arg8_r0 arg9_r0 arg10_r0 arg11_r0 arg12_r0 arg13_r0 arg14_r0 arg15_r0 k0_hw1 k0_h12 => k0_hw1.2.2.2.2.2.2.2.2.2.2.2.2.2.2.2.2.2.2.1 k0_h12
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h12 : k0_cond12 k0_t1 arg15_r0 = 1#1), ∀ a, (k0_off26 arg15_r0) a + S2048x2.size a ≤ S8192x2.size a := fun k0_t1 arg7_r0 arg8_r0 arg9_r0 arg10_r0 arg11_r0 arg12_r0 arg13_r0 arg14_r0 arg15_r0 k0_hw1 k0_h12 => k0_hw1.2.2.2.2.2.2.2.2.2.2.2.2.2.2.2.2.2.2.2.1 k0_h12
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h12 : k0_cond12 k0_t1 arg15_r0 = 1#1), ∀ a, (k0_off27 arg12_r0) a + S1x2048x2.size a ≤ S2x2048x2.size a := fun k0_t1 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.1 k0_h12
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h13 : k0_cond13 k0_t1 arg15_r0 = 1#1), ∀ a, (k0_off28 arg14_r0) a + S1.size a ≤ S2.size a := fun k0_t1 arg7_r0 arg8_r0 arg9_r0 arg10_r0 arg11_r0 arg12_r0 arg13_r0 arg14_r0 arg15_r0 k0_hw1 k0_h13 => k0_hw1.2.2.2.2.2.2.2.2.2.2.2.2.2.2.2.2.2.2.2.2.2.1 k0_h13
theorem k0_off29_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h13 : k0_cond13 k0_t1 arg15_r0 = 1#1), ∀ a, (k0_off29 arg15_r0) a + S2048x2.size a ≤ S8192x2.size a := fun k0_t1 arg7_r0 arg8_r0 arg9_r0 arg10_r0 arg11_r0 arg12_r0 arg13_r0 arg14_r0 arg15_r0 k0_hw1 k0_h13 => k0_hw1.2.2.2.2.2.2.2.2.2.2.2.2.2.2.2.2.2.2.2.2.2.2.1 k0_h13
theorem k0_off30_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg7_r0 arg8_r0 arg9_r0 arg10_r0 arg11_r0 arg12_r0 arg13_r0 arg14_r0 arg15_r0), ∀ (k0_h13 : k0_cond13 k0_t1 arg15_r0 = 1#1), ∀ a, (k0_off30 arg14_r0) a + S1x2048x2.size a ≤ S2x2048x2.size a := fun k0_t1 arg7_r0 arg8_r0 arg9_r0 arg10_r0 arg11_r0 arg12_r0 arg13_r0 arg14_r0 arg15_r0 k0_hw1 k0_h13 => k0_hw1.2.2.2.2.2.2.2.2.2.2.2.2.2.2.2.2.2.2.2.2.2.2.2 k0_h13

def k0_off31 (v25_3_r0 : BitVec 32) : Fin 1 → Nat :=
  let c2_i32_53_r0 : BitVec 32 := 2#32
  let v46_r0 : BitVec 32 := Scalar.remui v25_3_r0 c2_i32_53_r0
  ![v46_r0.toNat]

def k0_off32 (v25_8_r0 : BitVec 32) : Fin 2 → Nat :=
  let c2048_i32_r0 : BitVec 32 := 2048#32
  let true_34_r0 : BitVec 1 := 1#1
  let c1_i32_33_r0 : BitVec 32 := 1#32
  let v26_r0 : BitVec 32 := Scalar.subi v25_8_r0 c1_i32_33_r0
  let v27_r0 : BitVec 32 := Scalar.select true_34_r0 v26_r0 v25_8_r0
  let c_m1_i32_35_r0 : BitVec 32 := 4294967295#32
  let v28_r0 : BitVec 1 := Scalar.cmpi .eq v27_r0 c_m1_i32_35_r0
  let c3_i32_36_r0 : BitVec 32 := 3#32
  let v29_r0 : BitVec 32 := Scalar.select v28_r0 c3_i32_36_r0 v27_r0
  let c0_i32_37_r0 : BitVec 32 := 0#32
  let v30_r0 : BitVec 32 := Scalar.addi v29_r0 c0_i32_37_r0
  let v47_r0 : BitVec 32 := Scalar.muli c2048_i32_r0 v30_r0
  let c0_i32_54_r0 : BitVec 32 := 0#32
  ![v47_r0.toNat, 0]

def k0_off33 (v25_3_r0 : BitVec 32) : Fin 3 → Nat :=
  let c2_i32_53_r0 : BitVec 32 := 2#32
  let v46_r0 : BitVec 32 := Scalar.remui v25_3_r0 c2_i32_53_r0
  let c0_i32_55_r0 : BitVec 32 := 0#32
  let c0_i32_56_r0 : BitVec 32 := 0#32
  ![v46_r0.toNat, 0, 0]

def k0_chk6 (v25_3_r0 : BitVec 32) : Prop :=
  (∀ a, (k0_off31 v25_3_r0) a + S1.size a ≤ S2.size a) ∧
  (∀ a, (k0_off33 v25_3_r0) a + S1x2048x64.size a ≤ S2x2048x64.size a)
theorem k0_off31_inb : ∀ (v25_3_r0 : BitVec 32) (k0_hw6 : k0_chk6 v25_3_r0), ∀ a, (k0_off31 v25_3_r0) a + S1.size a ≤ S2.size a := fun v25_3_r0 k0_hw6 => k0_hw6.1
theorem k0_off33_inb : ∀ (v25_3_r0 : BitVec 32) (k0_hw6 : k0_chk6 v25_3_r0), ∀ a, (k0_off33 v25_3_r0) a + S1x2048x64.size a ≤ S2x2048x64.size a := fun v25_3_r0 k0_hw6 => k0_hw6.2

def k0_off34 (v25_5_r0 : BitVec 32) : Fin 1 → Nat :=
  let c2_i32_57_r0 : BitVec 32 := 2#32
  let v53_r0 : BitVec 32 := Scalar.remui v25_5_r0 c2_i32_57_r0
  ![v53_r0.toNat]

def k0_off35 (v25_8_r0 : BitVec 32) : Fin 2 → Nat :=
  let c2048_i32_58_r0 : BitVec 32 := 2048#32
  let true_34_r0 : BitVec 1 := 1#1
  let c1_i32_33_r0 : BitVec 32 := 1#32
  let v26_r0 : BitVec 32 := Scalar.subi v25_8_r0 c1_i32_33_r0
  let v27_r0 : BitVec 32 := Scalar.select true_34_r0 v26_r0 v25_8_r0
  let c_m1_i32_35_r0 : BitVec 32 := 4294967295#32
  let v28_r0 : BitVec 1 := Scalar.cmpi .eq v27_r0 c_m1_i32_35_r0
  let c3_i32_36_r0 : BitVec 32 := 3#32
  let v29_r0 : BitVec 32 := Scalar.select v28_r0 c3_i32_36_r0 v27_r0
  let c0_i32_37_r0 : BitVec 32 := 0#32
  let v30_r0 : BitVec 32 := Scalar.addi v29_r0 c0_i32_37_r0
  let v54_r0 : BitVec 32 := Scalar.muli c2048_i32_58_r0 v30_r0
  let c0_i32_59_r0 : BitVec 32 := 0#32
  ![v54_r0.toNat, 0]
def k0_off36 (v25_5_r0 : BitVec 32) : Fin 3 → Nat :=
  let c2_i32_57_r0 : BitVec 32 := 2#32
  let v53_r0 : BitVec 32 := Scalar.remui v25_5_r0 c2_i32_57_r0
  let c0_i32_60_r0 : BitVec 32 := 0#32
  let c0_i32_61_r0 : BitVec 32 := 0#32
  ![v53_r0.toNat, 0, 0]

def k0_chk8 (v25_5_r0 : BitVec 32) : Prop :=
  (∀ a, (k0_off34 v25_5_r0) a + S1.size a ≤ S2.size a) ∧
  (∀ a, (k0_off36 v25_5_r0) a + S1x2048x2.size a ≤ S2x2048x2.size a)
theorem k0_off34_inb : ∀ (v25_5_r0 : BitVec 32) (k0_hw8 : k0_chk8 v25_5_r0), ∀ a, (k0_off34 v25_5_r0) a + S1.size a ≤ S2.size a := fun v25_5_r0 k0_hw8 => k0_hw8.1
theorem k0_off36_inb : ∀ (v25_5_r0 : BitVec 32) (k0_hw8 : k0_chk8 v25_5_r0), ∀ a, (k0_off36 v25_5_r0) a + S1x2048x2.size a ≤ S2x2048x2.size a := fun v25_5_r0 k0_hw8 => k0_hw8.2

def k0_off37 (v25_7_r0 : BitVec 32) : Fin 1 → Nat :=
  let c2_i32_62_r0 : BitVec 32 := 2#32
  let v60_r0 : BitVec 32 := Scalar.remui v25_7_r0 c2_i32_62_r0
  ![v60_r0.toNat]

def k0_off38 (v25_8_r0 : BitVec 32) : Fin 2 → Nat :=
  let c2048_i32_63_r0 : BitVec 32 := 2048#32
  let true_34_r0 : BitVec 1 := 1#1
  let c1_i32_33_r0 : BitVec 32 := 1#32
  let v26_r0 : BitVec 32 := Scalar.subi v25_8_r0 c1_i32_33_r0
  let v27_r0 : BitVec 32 := Scalar.select true_34_r0 v26_r0 v25_8_r0
  let c_m1_i32_35_r0 : BitVec 32 := 4294967295#32
  let v28_r0 : BitVec 1 := Scalar.cmpi .eq v27_r0 c_m1_i32_35_r0
  let c3_i32_36_r0 : BitVec 32 := 3#32
  let v29_r0 : BitVec 32 := Scalar.select v28_r0 c3_i32_36_r0 v27_r0
  let c0_i32_37_r0 : BitVec 32 := 0#32
  let v30_r0 : BitVec 32 := Scalar.addi v29_r0 c0_i32_37_r0
  let v61_r0 : BitVec 32 := Scalar.muli c2048_i32_63_r0 v30_r0
  let c0_i32_64_r0 : BitVec 32 := 0#32
  ![v61_r0.toNat, 0]

def k0_chk7 (v25_8_r0 : BitVec 32) : Prop :=
  (∀ a, (k0_off32 v25_8_r0) a + S2048x64.size a ≤ S8192x64.size a) ∧
  (∀ a, (k0_off35 v25_8_r0) a + S2048x2.size a ≤ S8192x2.size a) ∧
  (∀ a, (k0_off38 v25_8_r0) a + S2048x2.size a ≤ S8192x2.size a)
theorem k0_off32_inb : ∀ (v25_8_r0 : BitVec 32) (k0_hw7 : k0_chk7 v25_8_r0), ∀ a, (k0_off32 v25_8_r0) a + S2048x64.size a ≤ S8192x64.size a := fun v25_8_r0 k0_hw7 => k0_hw7.1
theorem k0_off35_inb : ∀ (v25_8_r0 : BitVec 32) (k0_hw7 : k0_chk7 v25_8_r0), ∀ a, (k0_off35 v25_8_r0) a + S2048x2.size a ≤ S8192x2.size a := fun v25_8_r0 k0_hw7 => k0_hw7.2.1
theorem k0_off38_inb : ∀ (v25_8_r0 : BitVec 32) (k0_hw7 : k0_chk7 v25_8_r0), ∀ a, (k0_off38 v25_8_r0) a + S2048x2.size a ≤ S8192x2.size a := fun v25_8_r0 k0_hw7 => k0_hw7.2.2

def k0_off39 (v25_7_r0 : BitVec 32) : Fin 3 → Nat :=
  let c2_i32_62_r0 : BitVec 32 := 2#32
  let v60_r0 : BitVec 32 := Scalar.remui v25_7_r0 c2_i32_62_r0
  let c0_i32_65_r0 : BitVec 32 := 0#32
  let c0_i32_66_r0 : BitVec 32 := 0#32
  ![v60_r0.toNat, 0, 0]

def k0_chk9 (v25_7_r0 : BitVec 32) : Prop :=
  (∀ a, (k0_off37 v25_7_r0) a + S1.size a ≤ S2.size a) ∧
  (∀ a, (k0_off39 v25_7_r0) a + S1x2048x2.size a ≤ S2x2048x2.size a)
theorem k0_off37_inb : ∀ (v25_7_r0 : BitVec 32) (k0_hw9 : k0_chk9 v25_7_r0), ∀ a, (k0_off37 v25_7_r0) a + S1.size a ≤ S2.size a := fun v25_7_r0 k0_hw9 => k0_hw9.1
theorem k0_off39_inb : ∀ (v25_7_r0 : BitVec 32) (k0_hw9 : k0_chk9 v25_7_r0), ∀ a, (k0_off39 v25_7_r0) a + S1x2048x2.size a ≤ S2x2048x2.size a := fun v25_7_r0 k0_hw9 => k0_hw9.2

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S4x2048x64, .f32⟩
  | .hbm, ⟨4, _⟩ => ⟨S1x1x64, .f32⟩
  | .hbm, ⟨5, _⟩ => ⟨S4x2048x64, .f32⟩
  | .hbm, ⟨6, _⟩ => ⟨S4x2048x64, .f32⟩
  | .hbm, ⟨7, _⟩ => ⟨S_, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S4x2048x64, .f32⟩
  | .hbm, ⟨20, _⟩ => ⟨S4x2048x64, .f32⟩
  | .hbm, ⟨21, _⟩ => ⟨S4x2048x2, .f32⟩
  | .hbm, ⟨22, _⟩ => ⟨S4x2048x2, .i32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩

abbrev nD : Nat := 1
abbrev τ : Topo := Topo.v7x

variable {F : FTy → Type} [FloatOps F]
-- ==== Proof.Names.lean ====
/-
  The kernel's streamed pieces under fixed names: the four blocks of the tokens and of each of the three results in HBM, the two
  slots of each of the four on-chip rings and their transfer semaphores, the carried counters as words, and the equations that
  read every offset, check and condition of the pipelined loop in closed form at trip `k`.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.FrameSuffixV
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole arrays -/

/-- The token rows in HBM. -/
abbrev xA : Memref sig .tc .hbm S8192x1024 .f32 := Memref.whole main_call0_v0
/-- The three results in HBM: the gate probabilities, the two best of them, their lanes. -/
abbrev pA : Memref sig .tc .hbm S8192x64 .f32 := Memref.whole main_call0_v2_0
abbrev vA : Memref sig .tc .hbm S8192x2 .f32 := Memref.whole main_call0_v2_1
abbrev iA : Memref sig .tc .hbm S8192x2 .i32 := Memref.whole main_call0_v2_2
/-- The four rings in VMEM. -/
abbrev xR : Memref sig .tc .vmem S2x2048x1024 .f32 := Memref.whole cc0_scoped0
abbrev pR : Memref sig .tc .vmem S2x2048x64 .f32 := Memref.whole cc0_scoped2
abbrev vR : Memref sig .tc .vmem S2x2048x2 .f32 := Memref.whole cc0_scoped4
abbrev iR : Memref sig .tc .vmem S2x2048x2 .i32 := Memref.whole cc0_scoped6

/-! ## Offsets -/

/-- A semaphore's place in its pair, a slot's place in its ring, a block's first row in its array. -/
def semAt (s : Fin 2) : Fin 1 → Nat := ![s.val]
def slotAt (s : Fin 2) : Fin 3 → Nat := ![s.val, 0, 0]
def rowAt (b : Fin 4) : Fin 2 → Nat := ![2048 * b.val, 0]

theorem semAt_inb : ∀ s a, semAt s a + S1.size a ≤ S2.size a := by decide
theorem slotX_inb : ∀ s a, slotAt s a + S1x2048x1024.size a ≤ S2x2048x1024.size a := by decide
theorem slotP_inb : ∀ s a, slotAt s a + S1x2048x64.size a ≤ S2x2048x64.size a := by decide
theorem slotV_inb : ∀ s a, slotAt s a + S1x2048x2.size a ≤ S2x2048x2.size a := by decide
theorem rowX_inb : ∀ b a, rowAt b a + S2048x1024.size a ≤ S8192x1024.size a := by decide
theorem rowP_inb : ∀ b a, rowAt b a + S2048x64.size a ≤ S8192x64.size a := by decide
theorem rowV_inb : ∀ b a, rowAt b a + S2048x2.size a ≤ S8192x2.size a := by decide

instance (s : Fin 2) : ClosedOff (slotAt s) := ⟨![s.val, 0, 0], rfl⟩
instance (b : Fin 4) : ClosedOff (rowAt b) := ⟨![2048 * b.val, 0], rfl⟩

/-! ## Blocks, slots, semaphores -/

/-- Block `b` of each array in HBM. -/
def xBlk (b : Fin 4) : Memref sig .tc .hbm S2048x1024 .f32 := xA.slice (Rect.unit (s := S8192x1024) (rowAt b) S2048x1024.size (rowX_inb b)) (fun _ => rfl)
def pBlk (b : Fin 4) : Memref sig .tc .hbm S2048x64 .f32 := pA.slice (Rect.unit (s := S8192x64) (rowAt b) S2048x64.size (rowP_inb b)) (fun _ => rfl)
def vBlk (b : Fin 4) : Memref sig .tc .hbm S2048x2 .f32 := vA.slice (Rect.unit (s := S8192x2) (rowAt b) S2048x2.size (rowV_inb b)) (fun _ => rfl)
def iBlk (b : Fin 4) : Memref sig .tc .hbm S2048x2 .i32 := iA.slice (Rect.unit (s := S8192x2) (rowAt b) S2048x2.size (rowV_inb b)) (fun _ => rfl)

/-- Slot `s` of each ring. -/
def xSlot (s : Fin 2) : Memref sig .tc .vmem S2048x1024 .f32 :=
  (xR.slice (Rect.unit (s := S2x2048x1024) (slotAt s) S1x2048x1024.size (slotX_inb s)) (fun _ => rfl)).squeeze S2048x1024 squeezes_S1x2048x1024_S2048x1024
def pSlot (s : Fin 2) : Memref sig .tc .vmem S2048x64 .f32 :=
  (pR.slice (Rect.unit (s := S2x2048x64) (slotAt s) S1x2048x64.size (slotP_inb s)) (fun _ => rfl)).squeeze S2048x64 squeezes_S1x2048x64_S2048x64
def vSlot (s : Fin 2) : Memref sig .tc .vmem S2048x2 .f32 :=
  (vR.slice (Rect.unit (s := S2x2048x2) (slotAt s) S1x2048x2.size (slotV_inb s)) (fun _ => rfl)).squeeze S2048x2 squeezes_S1x2048x2_S2048x2
def iSlot (s : Fin 2) : Memref sig .tc .vmem S2048x2 .i32 :=
  (iR.slice (Rect.unit (s := S2x2048x2) (slotAt s) S1x2048x2.size (slotV_inb s)) (fun _ => rfl)).squeeze S2048x2 squeezes_S1x2048x2_S2048x2

/-- Slot `s`'s transfer semaphore in each pair. -/
def xSem (s : Fin 2) : DmaSems sig S_ := (cc0_scoped1.slice (Rect.unit (s := S2) (semAt s) S1.size (semAt_inb s))).squeeze S_ squeezes_S1_S_
def pSem (s : Fin 2) : DmaSems sig S_ := (cc0_scoped3.slice (Rect.unit (s := S2) (semAt s) S1.size (semAt_inb s))).squeeze S_ squeezes_S1_S_
def vSem (s : Fin 2) : DmaSems sig S_ := (cc0_scoped5.slice (Rect.unit (s := S2) (semAt s) S1.size (semAt_inb s))).squeeze S_ squeezes_S1_S_
def iSem (s : Fin 2) : DmaSems sig S_ := (cc0_scoped7.slice (Rect.unit (s := S2) (semAt s) S1.size (semAt_inb s))).squeeze S_ squeezes_S1_S_

/-! ## The carried words -/

/-- The counter word of a natural number. -/
def cw (n : ℕ) : BitVec 32 := BitVec.ofNat 32 n

abbrev Acc : Type := BitVec 32 × BitVec 32 × BitVec 32 × BitVec 32 × BitVec 32 × BitVec 32 × BitVec 32 × BitVec 32 × BitVec 32

/-- What the loop carries inside trip `k`: the next block to fetch, the block in hand for the tokens, then for each result the
    block in hand and the one before it, then the grid index. -/
abbrev accIn (k : ℕ) : Acc := (cw (k + 1), cw k, cw k, cw (k - 1), cw k, cw (k - 1), cw k, cw (k - 1), cw k)
/-- What it carries at the loop's end. -/
abbrev accEnd : Acc := (cw 4, cw 4, cw 4, cw 3, cw 4, cw 3, cw 4, cw 3, cw 0)
/-- What it carries before trip `k`, the end included. -/
def accAt (k : ℕ) : Acc := if k < 4 then accIn k else accEnd

theorem trips_eq : k0_t1_loop.trips = 4 := by decide

/-! ## The offsets in closed form -/

section Off
variable (k : Fin k0_t1_loop.trips)

theorem off3_eq : ∀ k : Fin k0_t1_loop.trips, k0_off3 (cw (k.val + 1)) = semAt (Ring.sl 2 (k.val + 1)) := by decide +kernel
theorem off4_eq : ∀ k : Fin k0_t1_loop.trips, k0_off4 (cw (k.val + 1)) = slotAt (Ring.sl 2 (k.val + 1)) := by decide +kernel
theorem off5_eq : ∀ k : Fin k0_t1_loop.trips, k.val + 1 < 4 → k0_off5 (cw k.val) = rowAt (Ring.bk 4 (k.val + 1)) := by decide +kernel
theorem off6_eq : ∀ k : Fin k0_t1_loop.trips, k0_off6 (cw k.val) = semAt (Ring.sl 2 k.val) := by decide +kernel
theorem off7_eq : ∀ k : Fin k0_t1_loop.trips, k0_off7 (cw k.val) = slotAt (Ring.sl 2 k.val) := by decide +kernel
theorem off8_eq : ∀ k : Fin k0_t1_loop.trips, k0_off8 (cw k.val) = rowAt (Ring.bk 4 k.val) := by decide +kernel
theorem off9_eq : ∀ k : Fin k0_t1_loop.trips, k0_off9 (cw k.val) = slotAt (Ring.sl 2 k.val) := by decide +kernel
theorem off10_eq : ∀ k : Fin k0_t1_loop.trips, k0_off10 (cw k.val) = slotAt (Ring.sl 2 k.val) := by decide +kernel
theorem off11_eq : ∀ k : Fin k0_t1_loop.trips, k0_off11 (cw k.val) = slotAt (Ring.sl 2 k.val) := by decide +kernel
theorem off12_eq : ∀ k : Fin k0_t1_loop.trips, k0_off12 (cw k.val) = slotAt (Ring.sl 2 k.val) := by decide +kernel
theorem off13_eq : ∀ k : Fin k0_t1_loop.trips, k0_off13 (cw k.val) = semAt (Ring.sl 2 k.val) := by decide +kernel
theorem off14_eq : ∀ k : Fin k0_t1_loop.trips, k0_off14 (cw k.val) = rowAt (Ring.bk 4 k.val) := by decide +kernel
theorem off15_eq : ∀ k : Fin k0_t1_loop.trips, k0_off15 (cw k.val) = slotAt (Ring.sl 2 k.val) := by decide +kernel
theorem off16_eq : ∀ k : Fin k0_t1_loop.trips, k0_off16 (cw k.val) = semAt (Ring.sl 2 k.val) := by decide +kernel
theorem off17_eq : ∀ k : Fin k0_t1_loop.trips, k0_off17 (cw k.val) = rowAt (Ring.bk 4 k.val) := by decide +kernel
theorem off18_eq : ∀ k : Fin k0_t1_loop.trips, k0_off18 (cw k.val) = slotAt (Ring.sl 2 k.val) := by decide +kernel
theorem off19_eq : ∀ k : Fin k0_t1_loop.trips, k0_off19 (cw k.val) = semAt (Ring.sl 2 k.val) := by decide +kernel
theorem off20_eq : ∀ k : Fin k0_t1_loop.trips, k0_off20 (cw k.val) = rowAt (Ring.bk 4 k.val) := by decide +kernel
theorem off21_eq : ∀ k : Fin k0_t1_loop.trips, k0_off21 (cw k.val) = slotAt (Ring.sl 2 k.val) := by decide +kernel
theorem off22_eq : ∀ k : Fin k0_t1_loop.trips, 1 ≤ k.val → k0_off22 (cw (k.val - 1)) = semAt (Ring.sl 2 (k.val + 1)) := by decide +kernel
theorem off23_eq : ∀ k : Fin k0_t1_loop.trips, 1 ≤ k.val → k0_off23 (cw k.val) = rowAt (Ring.bk 4 (k.val - 1)) := by decide +kernel
theorem off24_eq : ∀ k : Fin k0_t1_loop.trips, 1 ≤ k.val → k0_off24 (cw (k.val - 1)) = slotAt (Ring.sl 2 (k.val + 1)) := by decide +kernel
theorem off25_eq : ∀ k : Fin k0_t1_loop.trips, 1 ≤ k.val → k0_off25 (cw (k.val - 1)) = semAt (Ring.sl 2 (k.val + 1)) := by decide +kernel
theorem off26_eq : ∀ k : Fin k0_t1_loop.trips, 1 ≤ k.val → k0_off26 (cw k.val) = rowAt (Ring.bk 4 (k.val - 1)) := by decide +kernel
theorem off27_eq : ∀ k : Fin k0_t1_loop.trips, 1 ≤ k.val → k0_off27 (cw (k.val - 1)) = slotAt (Ring.sl 2 (k.val + 1)) := by decide +kernel
theorem off28_eq : ∀ k : Fin k0_t1_loop.trips, 1 ≤ k.val → k0_off28 (cw (k.val - 1)) = semAt (Ring.sl 2 (k.val + 1)) := by decide +kernel
theorem off29_eq : ∀ k : Fin k0_t1_loop.trips, 1 ≤ k.val → k0_off29 (cw k.val) = rowAt (Ring.bk 4 (k.val - 1)) := by decide +kernel
theorem off30_eq : ∀ k : Fin k0_t1_loop.trips, 1 ≤ k.val → k0_off30 (cw (k.val - 1)) = slotAt (Ring.sl 2 (k.val + 1)) := by decide +kernel

/-- The epilogue's offsets: the last block, in slot 1. -/
theorem off31_eq : k0_off31 (cw 3) = semAt 1 := by decide +kernel
theorem off32_eq : k0_off32 (cw 0) = rowAt 3 := by decide +kernel
theorem off33_eq : k0_off33 (cw 3) = slotAt 1 := by decide +kernel
theorem off34_eq : k0_off34 (cw 3) = semAt 1 := by decide +kernel
theorem off35_eq : k0_off35 (cw 0) = rowAt 3 := by decide +kernel
theorem off36_eq : k0_off36 (cw 3) = slotAt 1 := by decide +kernel
theorem off37_eq : k0_off37 (cw 3) = semAt 1 := by decide +kernel
theorem off38_eq : k0_off38 (cw 0) = rowAt 3 := by decide +kernel
theorem off39_eq : k0_off39 (cw 3) = slotAt 1 := by decide +kernel

instance (k : Fin k0_t1_loop.trips) : ClosedOff (k0_off9 (cw k.val)) := ⟨![(Ring.sl 2 k.val).val, 0, 0], off9_eq k⟩
instance (k : Fin k0_t1_loop.trips) : ClosedOff (k0_off10 (cw k.val)) := ⟨![(Ring.sl 2 k.val).val, 0, 0], off10_eq k⟩
instance (k : Fin k0_t1_loop.trips) : ClosedOff (k0_off11 (cw k.val)) := ⟨![(Ring.sl 2 k.val).val, 0, 0], off11_eq k⟩
instance (k : Fin k0_t1_loop.trips) : ClosedOff (k0_off12 (cw k.val)) := ⟨![(Ring.sl 2 k.val).val, 0, 0], off12_eq k⟩

/-! ## The conditions and the checks -/

theorem c1_on : ∀ k : Fin k0_t1_loop.trips, k.val + 1 < 4 → k0_cond1 k (cw k.val) = 1#1 := by decide +kernel
theorem c1_off : ∀ k : Fin k0_t1_loop.trips, ¬ k.val + 1 < 4 → ¬ k0_cond1 k (cw k.val) = 1#1 := by decide +kernel
theorem c2_on : ∀ k : Fin k0_t1_loop.trips, k0_cond2 k (cw k.val) = 1#1 := by decide +kernel
theorem c7_on : ∀ k : Fin k0_t1_loop.trips, k0_cond7 k (cw k.val) = 1#1 := by decide +kernel
theorem c8_on : ∀ k : Fin k0_t1_loop.trips, k0_cond8 k (cw k.val) = 1#1 := by decide +kernel
theorem c9_on : ∀ k : Fin k0_t1_loop.trips, k0_cond9 k (cw k.val) = 1#1 := by decide +kernel
theorem c11_on : ∀ k : Fin k0_t1_loop.trips, 1 ≤ k.val → k0_cond11 k (cw k.val) = 1#1 := by decide +kernel
theorem c12_on : ∀ k : Fin k0_t1_loop.trips, 1 ≤ k.val → k0_cond12 k (cw k.val) = 1#1 := by decide +kernel
theorem c13_on : ∀ k : Fin k0_t1_loop.trips, 1 ≤ k.val → k0_cond13 k (cw k.val) = 1#1 := by decide +kernel
theorem c11_off : ∀ k : Fin k0_t1_loop.trips, ¬ 1 ≤ k.val → ¬ k0_cond11 k (cw k.val) = 1#1 := by decide +kernel
theorem c12_off : ∀ k : Fin k0_t1_loop.trips, ¬ 1 ≤ k.val → ¬ k0_cond12 k (cw k.val) = 1#1 := by decide +kernel
theorem c13_off : ∀ k : Fin k0_t1_loop.trips, ¬ 1 ≤ k.val → ¬ k0_cond13 k (cw k.val) = 1#1 := by decide +kernel

theorem chk1_ok : ∀ k : Fin k0_t1_loop.trips, k0_chk1 k (cw (k.val + 1)) (cw k.val) (cw k.val) (cw (k.val - 1)) (cw k.val) (cw (k.val - 1)) (cw k.val) (cw (k.val - 1)) (cw k.val) := by
  decide +kernel
theorem chk2_ok : ∀ k : Fin k0_t1_loop.trips, k0_chk2 (cw k.val) := by decide +kernel
theorem chk3_ok : ∀ k : Fin k0_t1_loop.trips, k0_chk3 (cw k.val) := by decide +kernel
theorem chk4_ok : ∀ k : Fin k0_t1_loop.trips, k0_chk4 (cw k.val) := by decide +kernel
theorem chk5_ok : ∀ k : Fin k0_t1_loop.trips, k0_chk5 (cw k.val) := by decide +kernel
theorem chk6_ok : k0_chk6 (cw 3) := by decide +kernel
theorem chk7_ok : k0_chk7 (cw 0) := by decide +kernel
theorem chk8_ok : k0_chk8 (cw 3) := by decide +kernel
theorem chk9_ok : k0_chk9 (cw 3) := by decide +kernel

end Off

end Cert.Proof.Route

end
-- ==== Proof.Canon.lean ====
/-
  The views the kernel spells at each transfer are the named blocks, slots and semaphores of `Names`: one equation per place.
-/
module

public import proofs.«01_k».proof.Proof.Names

@[expose] public section

noncomputable section

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## A view depends on its offsets alone -/

theorem xSem_of {off : Fin 1 → Nat} {s : Fin 2} (e : off = semAt s) (hh) :
    (cc0_scoped1.slice (Rect.unit (s := S2) off S1.size hh)).squeeze S_ squeezes_S1_S_ = xSem s :=
  congrArg (fun A : DmaSems sig S1 => A.squeeze S_ squeezes_S1_S_) (SemArray.slice_unit_congr _ e _ _)
theorem xSlot_of {off : Fin 3 → Nat} {s : Fin 2} (e : off = slotAt s) (hh hs) :
    (xR.slice (Rect.unit (s := S2x2048x1024) off S1x2048x1024.size hh) hs).squeeze S2048x1024 squeezes_S1x2048x1024_S2048x1024 = xSlot s :=
  congrArg (fun M : Memref sig .tc .vmem S1x2048x1024 .f32 => M.squeeze S2048x1024 squeezes_S1x2048x1024_S2048x1024) (Memref.slice_unit_congr _ e _ _ _ _)
theorem xBlk_of {off : Fin 2 → Nat} {b : Fin 4} (e : off = rowAt b) (hh hs) :
    xA.slice (Rect.unit (s := S8192x1024) off S2048x1024.size hh) hs = xBlk b :=
  Memref.slice_unit_congr _ e _ _ hs (fun _ => rfl)
theorem pSem_of {off : Fin 1 → Nat} {s : Fin 2} (e : off = semAt s) (hh) :
    (cc0_scoped3.slice (Rect.unit (s := S2) off S1.size hh)).squeeze S_ squeezes_S1_S_ = pSem s :=
  congrArg (fun A : DmaSems sig S1 => A.squeeze S_ squeezes_S1_S_) (SemArray.slice_unit_congr _ e _ _)
theorem pSlot_of {off : Fin 3 → Nat} {s : Fin 2} (e : off = slotAt s) (hh hs) :
    (pR.slice (Rect.unit (s := S2x2048x64) off S1x2048x64.size hh) hs).squeeze S2048x64 squeezes_S1x2048x64_S2048x64 = pSlot s :=
  congrArg (fun M : Memref sig .tc .vmem S1x2048x64 .f32 => M.squeeze S2048x64 squeezes_S1x2048x64_S2048x64) (Memref.slice_unit_congr _ e _ _ _ _)
theorem pBlk_of {off : Fin 2 → Nat} {b : Fin 4} (e : off = rowAt b) (hh hs) :
    pA.slice (Rect.unit (s := S8192x64) off S2048x64.size hh) hs = pBlk b :=
  Memref.slice_unit_congr _ e _ _ hs (fun _ => rfl)
theorem vSem_of {off : Fin 1 → Nat} {s : Fin 2} (e : off = semAt s) (hh) :
    (cc0_scoped5.slice (Rect.unit (s := S2) off S1.size hh)).squeeze S_ squeezes_S1_S_ = vSem s :=
  congrArg (fun A : DmaSems sig S1 => A.squeeze S_ squeezes_S1_S_) (SemArray.slice_unit_congr _ e _ _)
theorem vSlot_of {off : Fin 3 → Nat} {s : Fin 2} (e : off = slotAt s) (hh hs) :
    (vR.slice (Rect.unit (s := S2x2048x2) off S1x2048x2.size hh) hs).squeeze S2048x2 squeezes_S1x2048x2_S2048x2 = vSlot s :=
  congrArg (fun M : Memref sig .tc .vmem S1x2048x2 .f32 => M.squeeze S2048x2 squeezes_S1x2048x2_S2048x2) (Memref.slice_unit_congr _ e _ _ _ _)
theorem vBlk_of {off : Fin 2 → Nat} {b : Fin 4} (e : off = rowAt b) (hh hs) :
    vA.slice (Rect.unit (s := S8192x2) off S2048x2.size hh) hs = vBlk b :=
  Memref.slice_unit_congr _ e _ _ hs (fun _ => rfl)
theorem iSem_of {off : Fin 1 → Nat} {s : Fin 2} (e : off = semAt s) (hh) :
    (cc0_scoped7.slice (Rect.unit (s := S2) off S1.size hh)).squeeze S_ squeezes_S1_S_ = iSem s :=
  congrArg (fun A : DmaSems sig S1 => A.squeeze S_ squeezes_S1_S_) (SemArray.slice_unit_congr _ e _ _)
theorem iSlot_of {off : Fin 3 → Nat} {s : Fin 2} (e : off = slotAt s) (hh hs) :
    (iR.slice (Rect.unit (s := S2x2048x2) off S1x2048x2.size hh) hs).squeeze S2048x2 squeezes_S1x2048x2_S2048x2 = iSlot s :=
  congrArg (fun M : Memref sig .tc .vmem S1x2048x2 .i32 => M.squeeze S2048x2 squeezes_S1x2048x2_S2048x2) (Memref.slice_unit_congr _ e _ _ _ _)
theorem iBlk_of {off : Fin 2 → Nat} {b : Fin 4} (e : off = rowAt b) (hh hs) :
    iA.slice (Rect.unit (s := S8192x2) off S2048x2.size hh) hs = iBlk b :=
  Memref.slice_unit_congr _ e _ _ hs (fun _ => rfl)

/-! ## Inside trip `k`: the next block fetched, the block in hand, the block before it -/

@[sl_canon] theorem xSemNext (k : Fin k0_t1_loop.trips) (hh) : (cc0_scoped1.slice (Rect.unit (s := S2) (k0_off3 (cw (k.val + 1))) S1.size hh)).squeeze S_ squeezes_S1_S_ = xSem (Ring.sl 2 (k.val + 1)) := xSem_of (off3_eq k) _
@[sl_canon] theorem xSlotNext (k : Fin k0_t1_loop.trips) (hh hs) : (xR.slice (Rect.unit (s := S2x2048x1024) (k0_off4 (cw (k.val + 1))) S1x2048x1024.size hh) hs).squeeze S2048x1024 squeezes_S1x2048x1024_S2048x1024 = xSlot (Ring.sl 2 (k.val + 1)) := xSlot_of (off4_eq k) _ _
@[sl_canon] theorem xBlkNext (k : Fin k0_t1_loop.trips) (h : k.val + 1 < 4) (hh hs) : xA.slice (Rect.unit (s := S8192x1024) (k0_off5 (cw k.val)) S2048x1024.size hh) hs = xBlk (Ring.bk 4 (k.val + 1)) := xBlk_of (off5_eq k h) _ _
@[sl_canon] theorem xSemHere (k : Fin k0_t1_loop.trips) (hh) : (cc0_scoped1.slice (Rect.unit (s := S2) (k0_off6 (cw k.val)) S1.size hh)).squeeze S_ squeezes_S1_S_ = xSem (Ring.sl 2 k.val) := xSem_of (off6_eq k) _
@[sl_canon] theorem xSlotHere (k : Fin k0_t1_loop.trips) (hh hs) : (xR.slice (Rect.unit (s := S2x2048x1024) (k0_off7 (cw k.val)) S1x2048x1024.size hh) hs).squeeze S2048x1024 squeezes_S1x2048x1024_S2048x1024 = xSlot (Ring.sl 2 k.val) := xSlot_of (off7_eq k) _ _
@[sl_canon] theorem xBlkHere (k : Fin k0_t1_loop.trips) (hh hs) : xA.slice (Rect.unit (s := S8192x1024) (k0_off8 (cw k.val)) S2048x1024.size hh) hs = xBlk (Ring.bk 4 k.val) := xBlk_of (off8_eq k) _ _
@[sl_canon] theorem pSemHere (k : Fin k0_t1_loop.trips) (hh) : (cc0_scoped3.slice (Rect.unit (s := S2) (k0_off13 (cw k.val)) S1.size hh)).squeeze S_ squeezes_S1_S_ = pSem (Ring.sl 2 k.val) := pSem_of (off13_eq k) _
@[sl_canon] theorem pSlotHere (k : Fin k0_t1_loop.trips) (hh hs) : (pR.slice (Rect.unit (s := S2x2048x64) (k0_off15 (cw k.val)) S1x2048x64.size hh) hs).squeeze S2048x64 squeezes_S1x2048x64_S2048x64 = pSlot (Ring.sl 2 k.val) := pSlot_of (off15_eq k) _ _
@[sl_canon] theorem pBlkHere (k : Fin k0_t1_loop.trips) (hh hs) : pA.slice (Rect.unit (s := S8192x64) (k0_off14 (cw k.val)) S2048x64.size hh) hs = pBlk (Ring.bk 4 k.val) := pBlk_of (off14_eq k) _ _
@[sl_canon] theorem pSemBack (k : Fin k0_t1_loop.trips) (h : 1 ≤ k.val) (hh) : (cc0_scoped3.slice (Rect.unit (s := S2) (k0_off22 (cw (k.val - 1))) S1.size hh)).squeeze S_ squeezes_S1_S_ = pSem (Ring.sl 2 (k.val + 1)) := pSem_of (off22_eq k h) _
@[sl_canon] theorem pSlotBack (k : Fin k0_t1_loop.trips) (h : 1 ≤ k.val) (hh hs) : (pR.slice (Rect.unit (s := S2x2048x64) (k0_off24 (cw (k.val - 1))) S1x2048x64.size hh) hs).squeeze S2048x64 squeezes_S1x2048x64_S2048x64 = pSlot (Ring.sl 2 (k.val + 1)) := pSlot_of (off24_eq k h) _ _
@[sl_canon] theorem pBlkBack (k : Fin k0_t1_loop.trips) (h : 1 ≤ k.val) (hh hs) : pA.slice (Rect.unit (s := S8192x64) (k0_off23 (cw k.val)) S2048x64.size hh) hs = pBlk (Ring.bk 4 (k.val - 1)) := pBlk_of (off23_eq k h) _ _
@[sl_canon] theorem vSemHere (k : Fin k0_t1_loop.trips) (hh) : (cc0_scoped5.slice (Rect.unit (s := S2) (k0_off16 (cw k.val)) S1.size hh)).squeeze S_ squeezes_S1_S_ = vSem (Ring.sl 2 k.val) := vSem_of (off16_eq k) _
@[sl_canon] theorem vSlotHere (k : Fin k0_t1_loop.trips) (hh hs) : (vR.slice (Rect.unit (s := S2x2048x2) (k0_off18 (cw k.val)) S1x2048x2.size hh) hs).squeeze S2048x2 squeezes_S1x2048x2_S2048x2 = vSlot (Ring.sl 2 k.val) := vSlot_of (off18_eq k) _ _
@[sl_canon] theorem vBlkHere (k : Fin k0_t1_loop.trips) (hh hs) : vA.slice (Rect.unit (s := S8192x2) (k0_off17 (cw k.val)) S2048x2.size hh) hs = vBlk (Ring.bk 4 k.val) := vBlk_of (off17_eq k) _ _
@[sl_canon] theorem vSemBack (k : Fin k0_t1_loop.trips) (h : 1 ≤ k.val) (hh) : (cc0_scoped5.slice (Rect.unit (s := S2) (k0_off25 (cw (k.val - 1))) S1.size hh)).squeeze S_ squeezes_S1_S_ = vSem (Ring.sl 2 (k.val + 1)) := vSem_of (off25_eq k h) _
@[sl_canon] theorem vSlotBack (k : Fin k0_t1_loop.trips) (h : 1 ≤ k.val) (hh hs) : (vR.slice (Rect.unit (s := S2x2048x2) (k0_off27 (cw (k.val - 1))) S1x2048x2.size hh) hs).squeeze S2048x2 squeezes_S1x2048x2_S2048x2 = vSlot (Ring.sl 2 (k.val + 1)) := vSlot_of (off27_eq k h) _ _
@[sl_canon] theorem vBlkBack (k : Fin k0_t1_loop.trips) (h : 1 ≤ k.val) (hh hs) : vA.slice (Rect.unit (s := S8192x2) (k0_off26 (cw k.val)) S2048x2.size hh) hs = vBlk (Ring.bk 4 (k.val - 1)) := vBlk_of (off26_eq k h) _ _
@[sl_canon] theorem iSemHere (k : Fin k0_t1_loop.trips) (hh) : (cc0_scoped7.slice (Rect.unit (s := S2) (k0_off19 (cw k.val)) S1.size hh)).squeeze S_ squeezes_S1_S_ = iSem (Ring.sl 2 k.val) := iSem_of (off19_eq k) _
@[sl_canon] theorem iSlotHere (k : Fin k0_t1_loop.trips) (hh hs) : (iR.slice (Rect.unit (s := S2x2048x2) (k0_off21 (cw k.val)) S1x2048x2.size hh) hs).squeeze S2048x2 squeezes_S1x2048x2_S2048x2 = iSlot (Ring.sl 2 k.val) := iSlot_of (off21_eq k) _ _
@[sl_canon] theorem iBlkHere (k : Fin k0_t1_loop.trips) (hh hs) : iA.slice (Rect.unit (s := S8192x2) (k0_off20 (cw k.val)) S2048x2.size hh) hs = iBlk (Ring.bk 4 k.val) := iBlk_of (off20_eq k) _ _
@[sl_canon] theorem iSemBack (k : Fin k0_t1_loop.trips) (h : 1 ≤ k.val) (hh) : (cc0_scoped7.slice (Rect.unit (s := S2) (k0_off28 (cw (k.val - 1))) S1.size hh)).squeeze S_ squeezes_S1_S_ = iSem (Ring.sl 2 (k.val + 1)) := iSem_of (off28_eq k h) _
@[sl_canon] theorem iSlotBack (k : Fin k0_t1_loop.trips) (h : 1 ≤ k.val) (hh hs) : (iR.slice (Rect.unit (s := S2x2048x2) (k0_off30 (cw (k.val - 1))) S1x2048x2.size hh) hs).squeeze S2048x2 squeezes_S1x2048x2_S2048x2 = iSlot (Ring.sl 2 (k.val + 1)) := iSlot_of (off30_eq k h) _ _
@[sl_canon] theorem iBlkBack (k : Fin k0_t1_loop.trips) (h : 1 ≤ k.val) (hh hs) : iA.slice (Rect.unit (s := S8192x2) (k0_off29 (cw k.val)) S2048x2.size hh) hs = iBlk (Ring.bk 4 (k.val - 1)) := iBlk_of (off29_eq k h) _ _

/-! ## Before the loop: block 0 into slot 0 -/

@[sl_canon] theorem xSemFirst (hh) : (cc0_scoped1.slice (Rect.unit (s := S2) k0_off1 S1.size hh)).squeeze S_ squeezes_S1_S_ = xSem 0 := xSem_of (by decide +kernel) _
@[sl_canon] theorem xSlotFirst (hh hs) : (xR.slice (Rect.unit (s := S2x2048x1024) k0_off2 S1x2048x1024.size hh) hs).squeeze S2048x1024 squeezes_S1x2048x1024_S2048x1024 = xSlot 0 := xSlot_of (by decide +kernel) _ _
@[sl_canon] theorem xBlkFirst (hh hs) : xA.slice (Rect.unit (s := S8192x1024) ![0, 0] S2048x1024.size hh) hs = xBlk 0 := xBlk_of (by decide +kernel) _ _

/-! ## After the loop: block 3 of each result, in slot 1 -/

@[sl_canon] theorem pSemLast (hh) : (cc0_scoped3.slice (Rect.unit (s := S2) (k0_off31 (cw 3)) S1.size hh)).squeeze S_ squeezes_S1_S_ = pSem 1 := pSem_of off31_eq _
@[sl_canon] theorem pSlotLast (hh hs) : (pR.slice (Rect.unit (s := S2x2048x64) (k0_off33 (cw 3)) S1x2048x64.size hh) hs).squeeze S2048x64 squeezes_S1x2048x64_S2048x64 = pSlot 1 := pSlot_of off33_eq _ _
@[sl_canon] theorem pBlkLast (hh hs) : pA.slice (Rect.unit (s := S8192x64) (k0_off32 (cw 0)) S2048x64.size hh) hs = pBlk 3 := pBlk_of off32_eq _ _
@[sl_canon] theorem vSemLast (hh) : (cc0_scoped5.slice (Rect.unit (s := S2) (k0_off34 (cw 3)) S1.size hh)).squeeze S_ squeezes_S1_S_ = vSem 1 := vSem_of off34_eq _
@[sl_canon] theorem vSlotLast (hh hs) : (vR.slice (Rect.unit (s := S2x2048x2) (k0_off36 (cw 3)) S1x2048x2.size hh) hs).squeeze S2048x2 squeezes_S1x2048x2_S2048x2 = vSlot 1 := vSlot_of off36_eq _ _
@[sl_canon] theorem vBlkLast (hh hs) : vA.slice (Rect.unit (s := S8192x2) (k0_off35 (cw 0)) S2048x2.size hh) hs = vBlk 3 := vBlk_of off35_eq _ _
@[sl_canon] theorem iSemLast (hh) : (cc0_scoped7.slice (Rect.unit (s := S2) (k0_off37 (cw 3)) S1.size hh)).squeeze S_ squeezes_S1_S_ = iSem 1 := iSem_of off37_eq _
@[sl_canon] theorem iSlotLast (hh hs) : (iR.slice (Rect.unit (s := S2x2048x2) (k0_off39 (cw 3)) S1x2048x2.size hh) hs).squeeze S2048x2 squeezes_S1x2048x2_S2048x2 = iSlot 1 := iSlot_of off39_eq _ _
@[sl_canon] theorem iBlkLast (hh hs) : iA.slice (Rect.unit (s := S8192x2) (k0_off38 (cw 0)) S2048x2.size hh) hs = iBlk 3 := iBlk_of off38_eq _ _

end Cert.Proof.Route

end
-- ==== Proof.Pieces.lean ====
/-
  The pieces the pipelined loop moves, as assertions: a slot, a block, a cell at rest, a copy in flight; what one block of tokens
  makes of each result; and the steps that restate what a trip leaves in those terms.
-/
module

public import proofs.«01_k».proof.Proof.Canon
public import Idealize.ShloMosaic.Lib.Pipeline.Value

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of a launch whose body keeps copies of its own. -/
abbrev UU := Pipeline.UD sig nD τ
local notation "𝕄" => MT nD τ sig Unit (Elt F) ℕ UU ℕ
/-- No variants. -/
abbrev 𝒱₀ : Variants := Variants.none

/-- What a copy of a block moves, in lanes, into each ring or array. -/
abbrev NX : ℕ := 262144
abbrev NP : ℕ := 32768
abbrev NV : ℕ := 32768
abbrev NI : ℕ := 32768

section Pieces
variable (c : Dev nD)

/-- A slot's transfer cell at rest, the slot, a block of the array: for the tokens, then for each result. -/
abbrev xCellP (s : Fin 2) : sProp 𝕄 := semVal ((c : Thread nD τ), SemLoc.dma (xSem s).sem) 0
abbrev xSlotP (s : Fin 2) (f : Buf (Elt F) ((xSlot s).view.loc (c : Thread nD τ))) : sProp 𝕄 :=
  (xSlot s).view.loc (c : Thread nD τ) ↦[(xSlot s).view.set]{fullShare} f
abbrev xBlkP (X : Buf (Elt F) (xA.view.loc (c : Thread nD τ))) (b : Fin 4) : sProp 𝕄 :=
  (xBlk b).view.loc (c : Thread nD τ) ↦[(xBlk b).view.set]{fullShare} X
abbrev pCellP (s : Fin 2) : sProp 𝕄 := semVal ((c : Thread nD τ), SemLoc.dma (pSem s).sem) 0
abbrev pSlotP (s : Fin 2) (f : Buf (Elt F) ((pSlot s).view.loc (c : Thread nD τ))) : sProp 𝕄 :=
  (pSlot s).view.loc (c : Thread nD τ) ↦[(pSlot s).view.set]{fullShare} f
abbrev pBlkP (X : Buf (Elt F) (pA.view.loc (c : Thread nD τ))) (b : Fin 4) : sProp 𝕄 :=
  (pBlk b).view.loc (c : Thread nD τ) ↦[(pBlk b).view.set]{fullShare} X
abbrev vCellP (s : Fin 2) : sProp 𝕄 := semVal ((c : Thread nD τ), SemLoc.dma (vSem s).sem) 0
abbrev vSlotP (s : Fin 2) (f : Buf (Elt F) ((vSlot s).view.loc (c : Thread nD τ))) : sProp 𝕄 :=
  (vSlot s).view.loc (c : Thread nD τ) ↦[(vSlot s).view.set]{fullShare} f
abbrev vBlkP (X : Buf (Elt F) (vA.view.loc (c : Thread nD τ))) (b : Fin 4) : sProp 𝕄 :=
  (vBlk b).view.loc (c : Thread nD τ) ↦[(vBlk b).view.set]{fullShare} X
abbrev iCellP (s : Fin 2) : sProp 𝕄 := semVal ((c : Thread nD τ), SemLoc.dma (iSem s).sem) 0
abbrev iSlotP (s : Fin 2) (f : Buf (Elt F) ((iSlot s).view.loc (c : Thread nD τ))) : sProp 𝕄 :=
  (iSlot s).view.loc (c : Thread nD τ) ↦[(iSlot s).view.set]{fullShare} f
abbrev iBlkP (X : Buf (Elt F) (iA.view.loc (c : Thread nD τ))) (b : Fin 4) : sProp 𝕄 :=
  (iBlk b).view.loc (c : Thread nD τ) ↦[(iBlk b).view.set]{fullShare} X

/-- A slot after a block of the tokens has landed on it, and the copy in flight that delivers it. -/
abbrev xLanded (X : Buf (Elt F) (xA.view.loc (c : Thread nD τ))) (s : Fin 2) (b : Fin 4) (f : Buf (Elt F) ((xSlot s).view.loc (c : Thread nD τ))) : Buf (Elt F) ((xSlot s).view.loc (c : Thread nD τ)) :=
  (xSlot s).view.writes (Elt F) f [⟨Rect.whole S2048x1024, ReadAs.same.apply ((xBlk b).view.read (Elt F) X)⟩]
abbrev xFlight (X : Buf (Elt F) (xA.view.loc (c : Thread nD τ))) (s : Fin 2) (b : Fin 4) (f : Buf (Elt F) ((xSlot s).view.loc (c : Thread nD τ))) : sProp 𝕄 :=
  Transfers.Flight countersEmb (c : Thread nD τ) (SemLoc.dma (xSem s).sem) () NX iprop(xSlotP c s (xLanded c X s b f) ∗ xBlkP c X b)
/-- A block of a result after a slot has landed on it, and the copy in flight that delivers it. -/
abbrev pLanded (O : Buf (Elt F) (pA.view.loc (c : Thread nD τ))) (s : Fin 2) (b : Fin 4) (f : Buf (Elt F) ((pSlot s).view.loc (c : Thread nD τ))) : Buf (Elt F) ((pBlk b).view.loc (c : Thread nD τ)) :=
  (pBlk b).view.writes (Elt F) O [⟨Rect.whole S2048x64, ReadAs.same.apply ((pSlot s).view.read (Elt F) f)⟩]
abbrev pFlight (O : Buf (Elt F) (pA.view.loc (c : Thread nD τ))) (s : Fin 2) (b : Fin 4) (f : Buf (Elt F) ((pSlot s).view.loc (c : Thread nD τ))) : sProp 𝕄 :=
  Transfers.Flight countersEmb (c : Thread nD τ) (SemLoc.dma (pSem s).sem) () NP iprop(pBlkP c (pLanded c O s b f) b ∗ pSlotP c s f)
abbrev vLanded (O : Buf (Elt F) (vA.view.loc (c : Thread nD τ))) (s : Fin 2) (b : Fin 4) (f : Buf (Elt F) ((vSlot s).view.loc (c : Thread nD τ))) : Buf (Elt F) ((vBlk b).view.loc (c : Thread nD τ)) :=
  (vBlk b).view.writes (Elt F) O [⟨Rect.whole S2048x2, ReadAs.same.apply ((vSlot s).view.read (Elt F) f)⟩]
abbrev vFlight (O : Buf (Elt F) (vA.view.loc (c : Thread nD τ))) (s : Fin 2) (b : Fin 4) (f : Buf (Elt F) ((vSlot s).view.loc (c : Thread nD τ))) : sProp 𝕄 :=
  Transfers.Flight countersEmb (c : Thread nD τ) (SemLoc.dma (vSem s).sem) () NV iprop(vBlkP c (vLanded c O s b f) b ∗ vSlotP c s f)
abbrev iLanded (O : Buf (Elt F) (iA.view.loc (c : Thread nD τ))) (s : Fin 2) (b : Fin 4) (f : Buf (Elt F) ((iSlot s).view.loc (c : Thread nD τ))) : Buf (Elt F) ((iBlk b).view.loc (c : Thread nD τ)) :=
  (iBlk b).view.writes (Elt F) O [⟨Rect.whole S2048x2, ReadAs.same.apply ((iSlot s).view.read (Elt F) f)⟩]
abbrev iFlight (O : Buf (Elt F) (iA.view.loc (c : Thread nD τ))) (s : Fin 2) (b : Fin 4) (f : Buf (Elt F) ((iSlot s).view.loc (c : Thread nD τ))) : sProp 𝕄 :=
  Transfers.Flight countersEmb (c : Thread nD τ) (SemLoc.dma (iSem s).sem) () NI iprop(iBlkP c (iLanded c O s b f) b ∗ iSlotP c s f)

/-! ## Copies in flight and free slots, the contents of the slots forgotten -/

/-- Block `b` of the tokens on its way to slot `s`; -/
def xFly (X : Buf (Elt F) (xA.view.loc (c : Thread nD τ))) (s : Fin 2) (b : Fin 4) : sProp 𝕄 := iprop(∃ f, xFlight c X s b f)
/-- slot `s` free, its cell at rest. -/
def xFree (s : Fin 2) : sProp 𝕄 := iprop((∃ f, xSlotP (F := F) c s f) ∗ xCellP (F := F) c s)

/-- Slot `s` on its way to block `b` of the probabilities, holding the block as `G` has it; -/
def pFly (O G : Buf (Elt F) (pA.view.loc (c : Thread nD τ))) (s : Fin 2) (b : Fin 4) : sProp 𝕄 :=
  iprop(∃ f, ⌜(pSlot s).view.read (Elt F) f = (pBlk b).view.read (Elt F) G⌝ ∗ pFlight c O s b f)
/-- slot `s` free, its cell at rest. -/
def pFree (s : Fin 2) : sProp 𝕄 := iprop((∃ f, pSlotP (F := F) c s f) ∗ pCellP (F := F) c s)
/-- A landed block is the block as `G` has it. -/
theorem pDone (O G : Buf (Elt F) (pA.view.loc (c : Thread nD τ))) (s : Fin 2) (b : Fin 4) (f : Buf (Elt F) ((pSlot s).view.loc (c : Thread nD τ)))
    (h : (pSlot s).view.read (Elt F) f = (pBlk b).view.read (Elt F) G) : pBlkP c (pLanded c O s b f) b ⊢ pBlkP c G b := by
  have e : (pBlkP c (pLanded c O s b f) b : sProp 𝕄) = pBlkP c G b :=
    (pointsTo_rep (Ix := Unit) (Name := ℕ) (U := UU) (Lvl := ℕ) (c : Thread nD τ) (pBlk b) (pLanded c O s b f) fullShare).trans
      ((congrArg (fun x => ((pBlk b).view.loc (c : Thread nD τ) ↦[(pBlk b).view.set]{fullShare} (pBlk b).view.rep x : sProp 𝕄))
        ((View.read_writes_whole ..).trans ((ReadAs.apply_same _).trans h))).trans
        (pointsTo_rep (Ix := Unit) (Name := ℕ) (U := UU) (Lvl := ℕ) (c : Thread nD τ) (pBlk b) G fullShare).symm)
  rw [e]

/-- Slot `s` on its way to block `b` of the best values, holding the block as `G` has it; -/
def vFly (O G : Buf (Elt F) (vA.view.loc (c : Thread nD τ))) (s : Fin 2) (b : Fin 4) : sProp 𝕄 :=
  iprop(∃ f, ⌜(vSlot s).view.read (Elt F) f = (vBlk b).view.read (Elt F) G⌝ ∗ vFlight c O s b f)
/-- slot `s` free, its cell at rest. -/
def vFree (s : Fin 2) : sProp 𝕄 := iprop((∃ f, vSlotP (F := F) c s f) ∗ vCellP (F := F) c s)
/-- A landed block is the block as `G` has it. -/
theorem vDone (O G : Buf (Elt F) (vA.view.loc (c : Thread nD τ))) (s : Fin 2) (b : Fin 4) (f : Buf (Elt F) ((vSlot s).view.loc (c : Thread nD τ)))
    (h : (vSlot s).view.read (Elt F) f = (vBlk b).view.read (Elt F) G) : vBlkP c (vLanded c O s b f) b ⊢ vBlkP c G b := by
  have e : (vBlkP c (vLanded c O s b f) b : sProp 𝕄) = vBlkP c G b :=
    (pointsTo_rep (Ix := Unit) (Name := ℕ) (U := UU) (Lvl := ℕ) (c : Thread nD τ) (vBlk b) (vLanded c O s b f) fullShare).trans
      ((congrArg (fun x => ((vBlk b).view.loc (c : Thread nD τ) ↦[(vBlk b).view.set]{fullShare} (vBlk b).view.rep x : sProp 𝕄))
        ((View.read_writes_whole ..).trans ((ReadAs.apply_same _).trans h))).trans
        (pointsTo_rep (Ix := Unit) (Name := ℕ) (U := UU) (Lvl := ℕ) (c : Thread nD τ) (vBlk b) G fullShare).symm)
  rw [e]

/-- Slot `s` on its way to block `b` of the best lanes, holding the block as `G` has it; -/
def iFly (O G : Buf (Elt F) (iA.view.loc (c : Thread nD τ))) (s : Fin 2) (b : Fin 4) : sProp 𝕄 :=
  iprop(∃ f, ⌜(iSlot s).view.read (Elt F) f = (iBlk b).view.read (Elt F) G⌝ ∗ iFlight c O s b f)
/-- slot `s` free, its cell at rest. -/
def iFree (s : Fin 2) : sProp 𝕄 := iprop((∃ f, iSlotP (F := F) c s f) ∗ iCellP (F := F) c s)
/-- A landed block is the block as `G` has it. -/
theorem iDone (O G : Buf (Elt F) (iA.view.loc (c : Thread nD τ))) (s : Fin 2) (b : Fin 4) (f : Buf (Elt F) ((iSlot s).view.loc (c : Thread nD τ)))
    (h : (iSlot s).view.read (Elt F) f = (iBlk b).view.read (Elt F) G) : iBlkP c (iLanded c O s b f) b ⊢ iBlkP c G b := by
  have e : (iBlkP c (iLanded c O s b f) b : sProp 𝕄) = iBlkP c G b :=
    (pointsTo_rep (Ix := Unit) (Name := ℕ) (U := UU) (Lvl := ℕ) (c : Thread nD τ) (iBlk b) (iLanded c O s b f) fullShare).trans
      ((congrArg (fun x => ((iBlk b).view.loc (c : Thread nD τ) ↦[(iBlk b).view.set]{fullShare} (iBlk b).view.rep x : sProp 𝕄))
        ((View.read_writes_whole ..).trans ((ReadAs.apply_same _).trans h))).trans
        (pointsTo_rep (Ix := Unit) (Name := ℕ) (U := UU) (Lvl := ℕ) (c : Thread nD τ) (iBlk b) G fullShare).symm)
  rw [e]

end Pieces

/-! ## What a block of tokens makes -/

section Values

/-- Block `b` of the tokens, as a slot is loaded. -/
def XT (X : xA.view.ty.Contents (Elt F)) (b : Fin 4) : Vec F S1x2048x1024 .f32 :=
  shapeCast S1x2048x1024 ((xBlk b).view.read (Elt F) X) (by decide)
/-- The probabilities of a block of tokens, its two best values, and their lanes. -/
def P0 (x : Vec F S1x2048x1024 .f32) (w : Vec F S1024x64 .f32) (b : Vec F S1x64 .f32) : Vec F S2048x64 .f32 :=
  shapeCast S2048x64 (k0_pay5 x w b) shapeCasts_S1x2048x64_S2048x64
def P1 (x : Vec F S1x2048x1024 .f32) (w : Vec F S1024x64 .f32) (b : Vec F S1x64 .f32) : Vec F S2048x2 .f32 :=
  shapeCast S2048x2 (k0_pay10 (k0_pay9 x w b)) shapeCasts_S1x2048x2_S2048x2
def P2 (x : Vec F S1x2048x1024 .f32) (w : Vec F S1024x64 .f32) (b : Vec F S1x64 .f32) : IVec S2048x2 32 :=
  shapeCast S2048x2 (k0_pay11 (k0_pay6 x w b) (k0_pay8 x w b)) shapeCasts_S1x2048x2_S2048x2

/-- A slot loaded after block `b` landed on it is that block. -/
theorem xLoad_eq (c : Dev nD) (X : Buf (Elt F) (xA.view.loc (c : Thread nD τ))) (s : Fin 2) (b : Fin 4) (f : Buf (Elt F) ((xSlot s).view.loc (c : Thread nD τ)))
    (off : Fin 3 → ℕ) (hoff : off = slotAt s) (inb : ∀ a, off a + S1x2048x1024.size a ≤ S2x2048x1024.size a) :
    View.readAt (Elt F) xR.view (Rect.unit (s := S2x2048x1024) off S1x2048x1024.size inb).toLoadRect (xLanded c X s b f) = XT X b := by
  subst hoff
  have h := Memref.read_squeeze_slice (Val := Elt F) xR (Rect.unit (s := S2x2048x1024) (slotAt s) S1x2048x1024.size inb) (fun _ => rfl)
    squeezes_S1x2048x1024_S2048x1024 shapeCasts_S1x2048x1024_S2048x1024 (xLanded c X s b f)
  have h2 : (xSlot s).view.read (Elt F) (xLanded c X s b f) = (xBlk b).view.read (Elt F) X := by
    rw [xLanded, View.read_writes_whole, ReadAs.apply_same]
  unfold XT
  rw [← h2]
  exact (shapeCast_shapeCast _ _ _).symm.trans (congrArg (fun v => shapeCast S1x2048x1024 v (by decide)) h.symm)

/-- A slot stored whole reads back what was stored. -/
theorem pStore_eq (c : Dev nD) (s : Fin 2) (f : Buf (Elt F) ((pSlot s).view.loc (c : Thread nD τ)))
    (off : Fin 3 → ℕ) (hoff : off = slotAt s) (inb : ∀ a, off a + S1x2048x64.size a ≤ S2x2048x64.size a) (w : S1x2048x64.Idx → Elt F .f32) :
    (pSlot s).view.read (Elt F) (View.write (Elt F) (pR.access (Rect.unit (s := S2x2048x64) off S1x2048x64.size inb)) f w Finset.univ) = shapeCast S2048x64 w shapeCasts_S1x2048x64_S2048x64 := by
  subst hoff
  refine (Memref.read_squeeze_slice (Val := Elt F) pR (Rect.unit (s := S2x2048x64) (slotAt s) S1x2048x64.size inb) (fun _ => rfl)
    squeezes_S1x2048x64_S2048x64 shapeCasts_S1x2048x64_S2048x64 _).trans ?_
  exact congrArg (fun v => shapeCast S2048x64 v shapeCasts_S1x2048x64_S2048x64) (View.read_write_univ (v := (pR.access (Rect.unit (s := S2x2048x64) (slotAt s) S1x2048x64.size inb))) f w)
/-- The copy a trip starts out of the slot it has stored. -/
theorem pFly_intro (c : Dev nD) (O G : Buf (Elt F) (pA.view.loc (c : Thread nD τ))) (s : Fin 2) (b : Fin 4) (f : Buf (Elt F) ((pSlot s).view.loc (c : Thread nD τ)))
    (off : Fin 3 → ℕ) (hoff : off = slotAt s) (inb : ∀ a, off a + S1x2048x64.size a ≤ S2x2048x64.size a) (x xt : Vec F S1x2048x1024 .f32) (w : Vec F S1024x64 .f32) (bi : Vec F S1x64 .f32)
    (hx : x = xt) (hG : (pBlk b).view.read (Elt F) G = P0 xt w bi) :
    pFlight c O s b (View.write (Elt F) (pR.access (Rect.unit (s := S2x2048x64) off S1x2048x64.size inb)) f (k0_pay5 x w bi) Finset.univ) ⊢ pFly c O G s b := by
  unfold pFly
  iintro H
  iexists _
  isplitr
  rotate_left
  · iexact H
  · ipureintro
    rw [pStore_eq c s f off hoff inb, hG, hx]
    rfl

/-- A slot stored whole reads back what was stored. -/
theorem vStore_eq (c : Dev nD) (s : Fin 2) (f : Buf (Elt F) ((vSlot s).view.loc (c : Thread nD τ)))
    (off : Fin 3 → ℕ) (hoff : off = slotAt s) (inb : ∀ a, off a + S1x2048x2.size a ≤ S2x2048x2.size a) (w : S1x2048x2.Idx → Elt F .f32) :
    (vSlot s).view.read (Elt F) (View.write (Elt F) (vR.access (Rect.unit (s := S2x2048x2) off S1x2048x2.size inb)) f w Finset.univ) = shapeCast S2048x2 w shapeCasts_S1x2048x2_S2048x2 := by
  subst hoff
  refine (Memref.read_squeeze_slice (Val := Elt F) vR (Rect.unit (s := S2x2048x2) (slotAt s) S1x2048x2.size inb) (fun _ => rfl)
    squeezes_S1x2048x2_S2048x2 shapeCasts_S1x2048x2_S2048x2 _).trans ?_
  exact congrArg (fun v => shapeCast S2048x2 v shapeCasts_S1x2048x2_S2048x2) (View.read_write_univ (v := (vR.access (Rect.unit (s := S2x2048x2) (slotAt s) S1x2048x2.size inb))) f w)
/-- The copy a trip starts out of the slot it has stored. -/
theorem vFly_intro (c : Dev nD) (O G : Buf (Elt F) (vA.view.loc (c : Thread nD τ))) (s : Fin 2) (b : Fin 4) (f : Buf (Elt F) ((vSlot s).view.loc (c : Thread nD τ)))
    (off : Fin 3 → ℕ) (hoff : off = slotAt s) (inb : ∀ a, off a + S1x2048x2.size a ≤ S2x2048x2.size a) (x xt : Vec F S1x2048x1024 .f32) (w : Vec F S1024x64 .f32) (bi : Vec F S1x64 .f32)
    (hx : x = xt) (hG : (vBlk b).view.read (Elt F) G = P1 xt w bi) :
    vFlight c O s b (View.write (Elt F) (vR.access (Rect.unit (s := S2x2048x2) off S1x2048x2.size inb)) f (shapeCast S1x2048x2 (k0_pay9 x w bi) shapeCasts_S2048x2_S1x2048x2) Finset.univ) ⊢ vFly c O G s b := by
  unfold vFly
  iintro H
  iexists _
  isplitr
  rotate_left
  · iexact H
  · ipureintro
    rw [vStore_eq c s f off hoff inb, hG, hx]
    rfl

/-- A slot stored whole reads back what was stored. -/
theorem iStore_eq (c : Dev nD) (s : Fin 2) (f : Buf (Elt F) ((iSlot s).view.loc (c : Thread nD τ)))
    (off : Fin 3 → ℕ) (hoff : off = slotAt s) (inb : ∀ a, off a + S1x2048x2.size a ≤ S2x2048x2.size a) (w : S1x2048x2.Idx → Elt F .i32) :
    (iSlot s).view.read (Elt F) (View.write (Elt F) (iR.access (Rect.unit (s := S2x2048x2) off S1x2048x2.size inb)) f w Finset.univ) = shapeCast S2048x2 w shapeCasts_S1x2048x2_S2048x2 := by
  subst hoff
  refine (Memref.read_squeeze_slice (Val := Elt F) iR (Rect.unit (s := S2x2048x2) (slotAt s) S1x2048x2.size inb) (fun _ => rfl)
    squeezes_S1x2048x2_S2048x2 shapeCasts_S1x2048x2_S2048x2 _).trans ?_
  exact congrArg (fun v => shapeCast S2048x2 v shapeCasts_S1x2048x2_S2048x2) (View.read_write_univ (v := (iR.access (Rect.unit (s := S2x2048x2) (slotAt s) S1x2048x2.size inb))) f w)
/-- The copy a trip starts out of the slot it has stored. -/
theorem iFly_intro (c : Dev nD) (O G : Buf (Elt F) (iA.view.loc (c : Thread nD τ))) (s : Fin 2) (b : Fin 4) (f : Buf (Elt F) ((iSlot s).view.loc (c : Thread nD τ)))
    (off : Fin 3 → ℕ) (hoff : off = slotAt s) (inb : ∀ a, off a + S1x2048x2.size a ≤ S2x2048x2.size a) (x xt : Vec F S1x2048x1024 .f32) (w : Vec F S1024x64 .f32) (bi : Vec F S1x64 .f32)
    (hx : x = xt) (hG : (iBlk b).view.read (Elt F) G = P2 xt w bi) :
    iFlight c O s b (View.write (Elt F) (iR.access (Rect.unit (s := S2x2048x2) off S1x2048x2.size inb)) f (shapeCast S1x2048x2 (concatenate S2048x2 1 [⟨S2048x1, k0_pay6 x w bi⟩, ⟨S2048x1, k0_pay8 x w bi⟩] concatenates_S2048x1_S2048x1_S2048x2_d1) shapeCasts_S2048x2_S1x2048x2) Finset.univ) ⊢ iFly c O G s b := by
  unfold iFly
  iintro H
  iexists _
  isplitr
  rotate_left
  · iexact H
  · ipureintro
    rw [iStore_eq c s f off hoff inb, hG, hx]
    rfl

end Values

end Cert.Proof.Route

end
-- ==== Proof.Trip.lean ====
/-
  One trip of the pipelined loop: the first, which waits for no result; a middle one; the last, which fetches no more tokens.
-/
module

public import proofs.«01_k».proof.Proof.Pieces

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Trip
variable (c : Dev nD) (X : Buf (Elt F) (xA.view.loc (c : Thread nD τ))) (O0 G0 : Buf (Elt F) (pA.view.loc (c : Thread nD τ)))
  (O1 G1 : Buf (Elt F) (vA.view.loc (c : Thread nD τ))) (O2 G2 : Buf (Elt F) (iA.view.loc (c : Thread nD τ)))
  (arg1 : Memref sig .tc .vmem S1024x64 .f32) (harg1 : arg1.IsWhole)
  (arg2 : Memref sig .tc .vmem S1x64 .f32) (harg2 : arg2.IsWhole)
  (fw : Buf (Elt F) (arg1.view.loc (c : Thread nD τ))) (fb : Buf (Elt F) (arg2.view.loc (c : Thread nD τ)))

/-- The staged weights and bias, -/
abbrev wP : sProp 𝕄 := arg1.view.loc (c : Thread nD τ) ↦[arg1.view.set]{fullShare} fw
abbrev bP : sProp 𝕄 := arg2.view.loc (c : Thread nD τ) ↦[arg2.view.set]{fullShare} fb
/-- and what a trip loads of each. -/
abbrev ldW : Vec F S1024x64 .f32 := View.readAt (Elt F) arg1.view (Rect.unit (s := S1024x64) ![0, 0] S1024x64.size inb_S1024x64_S1024x64_0_0).toLoadRect fw
abbrev ldB : Vec F S1x64 .f32 := View.readAt (Elt F) arg2.view (Rect.unit (s := S1x64) ![0, 0] S1x64.size inb_S1x64_S1x64_0_0).toLoadRect fb

/-- Trip `k` of the loop, on the kernel's own arrays, rings and semaphores. -/
abbrev tripG (k : Fin k0_t1_loop.trips) : Prog (TpuEff nD τ sig (Elt F) Λ₀ .tc) Acc :=
  k0_t1_body (F := F) xA (Memref.isWhole_whole _) arg1 harg1 arg2 harg2 pA (Memref.isWhole_whole _) vA (Memref.isWhole_whole _) iA (Memref.isWhole_whole _)
    xR (Memref.isWhole_whole _) cc0_scoped1 pR (Memref.isWhole_whole _) cc0_scoped3 vR (Memref.isWhole_whole _) cc0_scoped5 iR (Memref.isWhole_whole _) cc0_scoped7 k (accIn k)

/-- What each result holds after the kernel: block by block, the block of tokens through the kernel's arithmetic. -/
structure Made : Prop where
  p : ∀ b, (pBlk b).view.read (Elt F) G0 = P0 (XT X b) (ldW c arg1 fw) (ldB c arg2 fb)
  v : ∀ b, (vBlk b).view.read (Elt F) G1 = P1 (XT X b) (ldW c arg1 fw) (ldB c arg2 fb)
  i : ∀ b, (iBlk b).view.read (Elt F) G2 = P2 (XT X b) (ldW c arg1 fw) (ldB c arg2 fb)

set_option synthInstance.maxSize 4096 in
set_option synthInstance.maxHeartbeats 400000 in
/-- The carried words after a trip, as the trip computes them from the words before it. -/
theorem accNext : ∀ k : Fin k0_t1_loop.trips,
    (((Scalar.select (Scalar.andi (Scalar.andi (1#1) (Scalar.xori (Scalar.cmpi .sge (Scf.iv 0#32 1#32 k.val) 3#32) 1#1)) 1#1) (Scalar.addi (cw (k.val + 1)) 1#32) (cw (k.val + 1)),
      Scalar.select (1#1) (Scalar.addi (cw k.val) 1#32) (cw k.val),
      Scalar.select (1#1) (Scalar.addi (cw k.val) 1#32) (cw k.val),
      Scalar.select (Scalar.andi (Scalar.andi (1#1) (Scalar.xori (Scalar.cmpi .eq (Scf.iv 0#32 1#32 k.val) 0#32) 1#1)) 1#1) (Scalar.addi (cw (k.val - 1)) 1#32) (cw (k.val - 1)),
      Scalar.select (1#1) (Scalar.addi (cw k.val) 1#32) (cw k.val),
      Scalar.select (Scalar.andi (Scalar.andi (1#1) (Scalar.xori (Scalar.cmpi .eq (Scf.iv 0#32 1#32 k.val) 0#32) 1#1)) 1#1) (Scalar.addi (cw (k.val - 1)) 1#32) (cw (k.val - 1)),
      Scalar.select (1#1) (Scalar.addi (cw k.val) 1#32) (cw k.val),
      Scalar.select (Scalar.andi (Scalar.andi (1#1) (Scalar.xori (Scalar.cmpi .eq (Scf.iv 0#32 1#32 k.val) 0#32) 1#1)) 1#1) (Scalar.addi (cw (k.val - 1)) 1#32) (cw (k.val - 1)),
      Scalar.select (Scalar.cmpi .eq (Scalar.select (1#1) (Scalar.addi (cw k.val) 1#32) (cw k.val)) 4#32) (0#32) (Scalar.select (1#1) (Scalar.addi (cw k.val) 1#32) (cw k.val))) : Acc)) = accAt (k.val + 1) := by
  decide +kernel

/-- The first trip: it fetches the next block of tokens and makes the block in hand; no result is in flight yet. -/
theorem tripFirst (hM : Made c X G0 G1 G2 arg1 arg2 fw fb) (k : Fin k0_t1_loop.trips) (h1 : ¬ 1 ≤ k.val) (h4 : k.val + 1 < 4) :
    iprop(wP c arg1 fw ∗ bP c arg2 fb ∗ (∃ W, owes (c : Thread nD τ) 0 W)
     ∗ xFly c X (Ring.sl 2 k.val) (Ring.bk 4 k.val) ∗ xFree (F := F) c (Ring.sl 2 (k.val + 1)) ∗ xBlkP c X (Ring.bk 4 (k.val + 1))
     ∗ pFree (F := F) c (Ring.sl 2 (k.val + 1)) ∗ pFree (F := F) c (Ring.sl 2 k.val) ∗ pBlkP c O0 (Ring.bk 4 k.val)
     ∗ vFree (F := F) c (Ring.sl 2 (k.val + 1)) ∗ vFree (F := F) c (Ring.sl 2 k.val) ∗ vBlkP c O1 (Ring.bk 4 k.val)
     ∗ iFree (F := F) c (Ring.sl 2 (k.val + 1)) ∗ iFree (F := F) c (Ring.sl 2 k.val) ∗ iBlkP c O2 (Ring.bk 4 k.val))
   ⊢ wp frame (wpE (defs₀ (F := F)) 𝒱₀ (c : Thread nD τ) none) Set.univ (tripG (F := F) arg1 harg1 arg2 harg2 k)
       (fun acc' => iprop(⌜acc' = accAt (k.val + 1)⌝ ∗ wP c arg1 fw ∗ bP c arg2 fb ∗ (∃ W, owes (c : Thread nD τ) 0 W)
     ∗ xFly c X (Ring.sl 2 (k.val + 1)) (Ring.bk 4 (k.val + 1)) ∗ xFree (F := F) c (Ring.sl 2 k.val) ∗ xBlkP c X (Ring.bk 4 k.val)
     ∗ pFly c O0 G0 (Ring.sl 2 k.val) (Ring.bk 4 k.val) ∗ pFree (F := F) c (Ring.sl 2 (k.val + 1))
     ∗ vFly c O1 G1 (Ring.sl 2 k.val) (Ring.bk 4 k.val) ∗ vFree (F := F) c (Ring.sl 2 (k.val + 1))
     ∗ iFly c O2 G2 (Ring.sl 2 k.val) (Ring.bk 4 k.val) ∗ iFree (F := F) c (Ring.sl 2 (k.val + 1)))) := by
  have hc1 := c1_on k h4
  have hc2 := c2_on k
  have hc7 := c7_on k
  have hc8 := c8_on k
  have hc9 := c9_on k
  have hc11 := c11_off k h1
  have hc12 := c12_off k h1
  have hc13 := c13_off k h1
  have hk1 := chk1_ok k
  have hk2 := chk2_ok k
  have hk3 := chk3_ok k
  have hk4 := chk4_ok k
  have hk5 := chk5_ok k
  unfold xFly xFree pFree vFree iFree
  iintro ⟨Hw, Hb, ⟨%W, HW⟩, ⟨%f0, HX⟩, ⟨⟨%f1, Hxs⟩, Hxc⟩, Hxb, ⟨⟨%fp, HPs⟩, HPc⟩, ⟨⟨%fp', Hps⟩, Hpc⟩, Hpb, ⟨⟨%fv, HVs⟩, HVc⟩, ⟨⟨%fv', Hvs⟩, Hvc⟩, Hvb, ⟨⟨%fi, HIs⟩, HIc⟩, ⟨⟨%fi', His⟩, Hic⟩, Hib⟩
  dsimp only [tripG]
  sl_unfold [k0_t1_body]
  sl_exec
  sl_step
  sl_unfold_run_names
  ihave Hpc := (pFly_intro c _ G0 _ _ _ _ (off10_eq k) _ _ _ _ _ (xLoad_eq c X _ _ _ _ (off9_eq k) _) (hM.p _)) $$ Hpc
  ihave Hvc := (vFly_intro c _ G1 _ _ _ _ (off11_eq k) _ _ _ _ _ (xLoad_eq c X _ _ _ _ (off9_eq k) _) (hM.v _)) $$ Hvc
  ihave Hic := (iFly_intro c _ G2 _ _ _ _ (off12_eq k) _ _ _ _ _ (xLoad_eq c X _ _ _ _ (off9_eq k) _) (hM.i _)) $$ Hic
  isplitr
  · ipureintro; exact accNext k
  isplitl [Hw]
  · iexact Hw
  isplitl [Hb]
  · iexact Hb
  isplitl [HW]
  · iexists _; iexact HW
  isplitl [Hxc]
  · iexists _; iexact Hxc
  isplitl [HX_dst HX]
  · isplitl [HX_dst]
    · iexists _; iexact HX_dst
    · iexact HX
  isplitl [HX_src]
  · iexact HX_src
  isplitl [Hpc]
  · iexact Hpc
  isplitl [HPs HPc]
  · isplitl [HPs]
    · iexists _; iexact HPs
    · iexact HPc
  isplitl [Hvc]
  · iexact Hvc
  isplitl [HVs HVc]
  · isplitl [HVs]
    · iexists _; iexact HVs
    · iexact HVc
  isplitl [Hic]
  · iexact Hic
  isplitl [HIs]
  · iexists _; iexact HIs
  · iexact HIc

/-- A middle trip: it fetches the next block of tokens, makes the block in hand, and waits for the results of the block before. -/
theorem tripMid (hM : Made c X G0 G1 G2 arg1 arg2 fw fb) (k : Fin k0_t1_loop.trips) (h1 : 1 ≤ k.val) (h4 : k.val + 1 < 4) :
    iprop(wP c arg1 fw ∗ bP c arg2 fb ∗ (∃ W, owes (c : Thread nD τ) 0 W)
     ∗ xFly c X (Ring.sl 2 k.val) (Ring.bk 4 k.val) ∗ xFree (F := F) c (Ring.sl 2 (k.val + 1)) ∗ xBlkP c X (Ring.bk 4 (k.val + 1))
     ∗ pFly c O0 G0 (Ring.sl 2 (k.val + 1)) (Ring.bk 4 (k.val - 1)) ∗ pFree (F := F) c (Ring.sl 2 k.val) ∗ pBlkP c O0 (Ring.bk 4 k.val)
     ∗ vFly c O1 G1 (Ring.sl 2 (k.val + 1)) (Ring.bk 4 (k.val - 1)) ∗ vFree (F := F) c (Ring.sl 2 k.val) ∗ vBlkP c O1 (Ring.bk 4 k.val)
     ∗ iFly c O2 G2 (Ring.sl 2 (k.val + 1)) (Ring.bk 4 (k.val - 1)) ∗ iFree (F := F) c (Ring.sl 2 k.val) ∗ iBlkP c O2 (Ring.bk 4 k.val))
   ⊢ wp frame (wpE (defs₀ (F := F)) 𝒱₀ (c : Thread nD τ) none) Set.univ (tripG (F := F) arg1 harg1 arg2 harg2 k)
       (fun acc' => iprop(⌜acc' = accAt (k.val + 1)⌝ ∗ wP c arg1 fw ∗ bP c arg2 fb ∗ (∃ W, owes (c : Thread nD τ) 0 W)
     ∗ xFly c X (Ring.sl 2 (k.val + 1)) (Ring.bk 4 (k.val + 1)) ∗ xFree (F := F) c (Ring.sl 2 k.val) ∗ xBlkP c X (Ring.bk 4 k.val)
     ∗ pFly c O0 G0 (Ring.sl 2 k.val) (Ring.bk 4 k.val) ∗ pFree (F := F) c (Ring.sl 2 (k.val + 1)) ∗ pBlkP c G0 (Ring.bk 4 (k.val - 1))
     ∗ vFly c O1 G1 (Ring.sl 2 k.val) (Ring.bk 4 k.val) ∗ vFree (F := F) c (Ring.sl 2 (k.val + 1)) ∗ vBlkP c G1 (Ring.bk 4 (k.val - 1))
     ∗ iFly c O2 G2 (Ring.sl 2 k.val) (Ring.bk 4 k.val) ∗ iFree (F := F) c (Ring.sl 2 (k.val + 1)) ∗ iBlkP c G2 (Ring.bk 4 (k.val - 1)))) := by
  have hc1 := c1_on k h4
  have hc2 := c2_on k
  have hc7 := c7_on k
  have hc8 := c8_on k
  have hc9 := c9_on k
  have hc11 := c11_on k h1
  have hc12 := c12_on k h1
  have hc13 := c13_on k h1
  have hk1 := chk1_ok k
  have hk2 := chk2_ok k
  have hk3 := chk3_ok k
  have hk4 := chk4_ok k
  have hk5 := chk5_ok k
  unfold xFly xFree pFree vFree iFree pFly vFly iFly
  iintro ⟨Hw, Hb, ⟨%W, HW⟩, ⟨%f0, HX⟩, ⟨⟨%f1, Hxs⟩, Hxc⟩, Hxb, ⟨%fp, %hp, HP⟩, ⟨⟨%fp', Hps⟩, Hpc⟩, Hpb, ⟨%fv, %hv, HV⟩, ⟨⟨%fv', Hvs⟩, Hvc⟩, Hvb, ⟨%fi, %hi, HI⟩, ⟨⟨%fi', His⟩, Hic⟩, Hib⟩
  dsimp only [tripG]
  sl_unfold [k0_t1_body]
  sl_exec
  sl_step
  sl_unfold_run_names
  ihave Hpc := (pFly_intro c _ G0 _ _ _ _ (off10_eq k) _ _ _ _ _ (xLoad_eq c X _ _ _ _ (off9_eq k) _) (hM.p _)) $$ Hpc
  ihave HP_dst := (pDone c _ G0 _ _ _ hp) $$ HP_dst
  ihave Hvc := (vFly_intro c _ G1 _ _ _ _ (off11_eq k) _ _ _ _ _ (xLoad_eq c X _ _ _ _ (off9_eq k) _) (hM.v _)) $$ Hvc
  ihave HV_dst := (vDone c _ G1 _ _ _ hv) $$ HV_dst
  ihave Hic := (iFly_intro c _ G2 _ _ _ _ (off12_eq k) _ _ _ _ _ (xLoad_eq c X _ _ _ _ (off9_eq k) _) (hM.i _)) $$ Hic
  ihave HI_dst := (iDone c _ G2 _ _ _ hi) $$ HI_dst
  unfold pFly vFly iFly
  isplitr
  · ipureintro; exact accNext k
  isplitl [Hw]
  · iexact Hw
  isplitl [Hb]
  · iexact Hb
  isplitl [HW]
  · iexists _; iexact HW
  isplitl [Hxc]
  · iexists _; iexact Hxc
  isplitl [HX_dst HX]
  · isplitl [HX_dst]
    · iexists _; iexact HX_dst
    · iexact HX
  isplitl [HX_src]
  · iexact HX_src
  isplitl [Hpc]
  · iexact Hpc
  isplitl [HP_src HP]
  · isplitl [HP_src]
    · iexists _; iexact HP_src
    · iexact HP
  isplitl [HP_dst]
  · iexact HP_dst
  isplitl [Hvc]
  · iexact Hvc
  isplitl [HV_src HV]
  · isplitl [HV_src]
    · iexists _; iexact HV_src
    · iexact HV
  isplitl [HV_dst]
  · iexact HV_dst
  isplitl [Hic]
  · iexact Hic
  isplitl [HI_src HI]
  · isplitl [HI_src]
    · iexists _; iexact HI_src
    · iexact HI
  iexact HI_dst

/-- The last trip: nothing is left to fetch. -/
theorem tripLast (hM : Made c X G0 G1 G2 arg1 arg2 fw fb) (k : Fin k0_t1_loop.trips) (h1 : 1 ≤ k.val) (h4 : ¬ k.val + 1 < 4) :
    iprop(wP c arg1 fw ∗ bP c arg2 fb ∗ (∃ W, owes (c : Thread nD τ) 0 W)
     ∗ xFly c X (Ring.sl 2 k.val) (Ring.bk 4 k.val) ∗ xFree (F := F) c (Ring.sl 2 (k.val + 1))
     ∗ pFly c O0 G0 (Ring.sl 2 (k.val + 1)) (Ring.bk 4 (k.val - 1)) ∗ pFree (F := F) c (Ring.sl 2 k.val) ∗ pBlkP c O0 (Ring.bk 4 k.val)
     ∗ vFly c O1 G1 (Ring.sl 2 (k.val + 1)) (Ring.bk 4 (k.val - 1)) ∗ vFree (F := F) c (Ring.sl 2 k.val) ∗ vBlkP c O1 (Ring.bk 4 k.val)
     ∗ iFly c O2 G2 (Ring.sl 2 (k.val + 1)) (Ring.bk 4 (k.val - 1)) ∗ iFree (F := F) c (Ring.sl 2 k.val) ∗ iBlkP c O2 (Ring.bk 4 k.val))
   ⊢ wp frame (wpE (defs₀ (F := F)) 𝒱₀ (c : Thread nD τ) none) Set.univ (tripG (F := F) arg1 harg1 arg2 harg2 k)
       (fun acc' => iprop(⌜acc' = accAt (k.val + 1)⌝ ∗ wP c arg1 fw ∗ bP c arg2 fb ∗ (∃ W, owes (c : Thread nD τ) 0 W)
     ∗ xFree (F := F) c (Ring.sl 2 (k.val + 1)) ∗ xFree (F := F) c (Ring.sl 2 k.val) ∗ xBlkP c X (Ring.bk 4 k.val)
     ∗ pFly c O0 G0 (Ring.sl 2 k.val) (Ring.bk 4 k.val) ∗ pFree (F := F) c (Ring.sl 2 (k.val + 1)) ∗ pBlkP c G0 (Ring.bk 4 (k.val - 1))
     ∗ vFly c O1 G1 (Ring.sl 2 k.val) (Ring.bk 4 k.val) ∗ vFree (F := F) c (Ring.sl 2 (k.val + 1)) ∗ vBlkP c G1 (Ring.bk 4 (k.val - 1))
     ∗ iFly c O2 G2 (Ring.sl 2 k.val) (Ring.bk 4 k.val) ∗ iFree (F := F) c (Ring.sl 2 (k.val + 1)) ∗ iBlkP c G2 (Ring.bk 4 (k.val - 1)))) := by
  have hc1 := c1_off k h4
  have hc2 := c2_on k
  have hc7 := c7_on k
  have hc8 := c8_on k
  have hc9 := c9_on k
  have hc11 := c11_on k h1
  have hc12 := c12_on k h1
  have hc13 := c13_on k h1
  have hk1 := chk1_ok k
  have hk2 := chk2_ok k
  have hk3 := chk3_ok k
  have hk4 := chk4_ok k
  have hk5 := chk5_ok k
  unfold xFly xFree pFree vFree iFree pFly vFly iFly
  iintro ⟨Hw, Hb, ⟨%W, HW⟩, ⟨%f0, HX⟩, ⟨⟨%f1, Hxs⟩, Hxc⟩, ⟨%fp, %hp, HP⟩, ⟨⟨%fp', Hps⟩, Hpc⟩, Hpb, ⟨%fv, %hv, HV⟩, ⟨⟨%fv', Hvs⟩, Hvc⟩, Hvb, ⟨%fi, %hi, HI⟩, ⟨⟨%fi', His⟩, Hic⟩, Hib⟩
  dsimp only [tripG]
  sl_unfold [k0_t1_body]
  sl_exec
  sl_step
  sl_unfold_run_names
  ihave Hpc := (pFly_intro c _ G0 _ _ _ _ (off10_eq k) _ _ _ _ _ (xLoad_eq c X _ _ _ _ (off9_eq k) _) (hM.p _)) $$ Hpc
  ihave HP_dst := (pDone c _ G0 _ _ _ hp) $$ HP_dst
  ihave Hvc := (vFly_intro c _ G1 _ _ _ _ (off11_eq k) _ _ _ _ _ (xLoad_eq c X _ _ _ _ (off9_eq k) _) (hM.v _)) $$ Hvc
  ihave HV_dst := (vDone c _ G1 _ _ _ hv) $$ HV_dst
  ihave Hic := (iFly_intro c _ G2 _ _ _ _ (off12_eq k) _ _ _ _ _ (xLoad_eq c X _ _ _ _ (off9_eq k) _) (hM.i _)) $$ Hic
  ihave HI_dst := (iDone c _ G2 _ _ _ hi) $$ HI_dst
  unfold pFly vFly iFly
  isplitr
  · ipureintro; exact accNext k
  isplitl [Hw]
  · iexact Hw
  isplitl [Hb]
  · iexact Hb
  isplitl [HW]
  · iexists _; iexact HW
  isplitl [Hxs Hxc]
  · isplitl [Hxs]
    · iexists _; iexact Hxs
    · iexact Hxc
  isplitl [HX_dst HX]
  · isplitl [HX_dst]
    · iexists _; iexact HX_dst
    · iexact HX
  isplitl [HX_src]
  · iexact HX_src
  isplitl [Hpc]
  · iexact Hpc
  isplitl [HP_src HP]
  · isplitl [HP_src]
    · iexists _; iexact HP_src
    · iexact HP
  isplitl [HP_dst]
  · iexact HP_dst
  isplitl [Hvc]
  · iexact Hvc
  isplitl [HV_src HV]
  · isplitl [HV_src]
    · iexists _; iexact HV_src
    · iexact HV
  isplitl [HV_dst]
  · iexact HV_dst
  isplitl [Hic]
  · iexact Hic
  isplitl [HI_src HI]
  · isplitl [HI_src]
    · iexists _; iexact HI_src
    · iexact HI
  iexact HI_dst

end Trip

end Cert.Proof.Route

end
-- ==== Proof.Walk.lean ====
/-
  The pipelined loop's invariant: before trip `k` the tokens' block `k` is on its way in, each result's block `k - 1` on its way
  out, every other block at rest — a result's blocks before `k - 1` already as the kernel leaves them.
-/
module

public import proofs.«01_k».proof.Proof.Trip

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

theorem ent_of_eq {P Q : sProp 𝕄} (e : P = Q) : P ⊢ Q := e ▸ .rfl

/-! ## The blocks at rest -/

section Homes
variable {M : Type} [URA M] (A B : Fin 4 → sProp M)

/-- The blocks of a result at rest before trip `k`: those made are `B`, those still to be made `A`. -/
def hom (k : ℕ) : sProp M := bigSep (Ring.homeSetB (NB := 4) 1 k) (fun b => if b.val < k then B b else A b)

/-- Before the first trip all are to be made; -/
theorem hom_zero : hom A B 0 = bigSep Finset.univ A := by
  unfold hom
  rw [Ring.homeSetB_zero]
  exact bigSep_congr fun b _ => if_neg (Nat.not_lt_zero _)
/-- the first trip takes its own block out; -/
theorem hom_first (k : ℕ) (h : ¬ 1 ≤ k) : hom A B k = iprop(A (Ring.bk 4 k) ∗ hom A B (k + 1)) := by
  obtain rfl : k = 0 := by omega
  unfold hom
  rw [Ring.bigSep_take (Ring.bk_mem_homeSetB 1 0 (by decide)), Ring.homeSetB_step_boot 1 0 (by decide) (by decide)]
  refine congrArg₂ (fun P Q => iprop(P ∗ Q)) (if_neg (Nat.not_lt_zero _)) (bigSep_congr fun b hb => ?_)
  have hb0 := Finset.ne_of_mem_erase hb
  have : ¬ b.val < 0 + 1 := fun h => hb0 (Fin.ext (by rw [Ring.bk_val (by decide)]; omega))
  rw [if_neg (Nat.not_lt_zero _), if_neg this]
/-- a later trip takes its own block out and puts the block before it back, made; -/
theorem hom_mid (k : ℕ) (h1 : 1 ≤ k) (h4 : k < 4) :
    hom A B k = iprop(A (Ring.bk 4 k) ∗ bigSep ((Ring.homeSetB (NB := 4) 1 k).erase (Ring.bk 4 k)) (fun b => if b.val < k then B b else A b))
      ∧ hom A B (k + 1) = iprop(B (Ring.bk 4 (k - 1)) ∗ bigSep ((Ring.homeSetB (NB := 4) 1 k).erase (Ring.bk 4 k)) (fun b => if b.val < k then B b else A b)) := by
  refine ⟨?_, ?_⟩
  · unfold hom
    rw [Ring.bigSep_take (Ring.bk_mem_homeSetB 1 k h4)]
    refine congrArg₂ (fun P Q => iprop(P ∗ Q)) (if_neg ?_) rfl
    rw [Ring.bk_val h4]; omega
  · unfold hom
    rw [Ring.homeSetB_step 1 k h4 h1, Ring.bigSep_put (Ring.bk_sub_not_mem 1 k h4 h1)]
    refine congrArg₂ (fun P Q => iprop(P ∗ Q)) (if_pos ?_) (bigSep_congr fun b hb => ?_)
    · rw [Ring.bk_val (by omega)]; omega
    · have hb0 := Finset.ne_of_mem_erase hb
      have : b.val ≠ k := fun h => hb0 (Fin.ext (by rw [Ring.bk_val h4]; exact h))
      by_cases hk : b.val < k
      · rw [if_pos hk, if_pos (by omega)]
      · rw [if_neg hk, if_neg (by omega)]
/-- past the last trip all but the last block are made. -/
theorem hom_end : iprop(B 3 ∗ hom A B 4) = bigSep Finset.univ B := by
  have e : (Ring.homeSetB (NB := 4) 1 4) = Finset.univ.erase 3 := Ring.homeSetB_one_end
  unfold hom
  rw [Ring.bigSep_take (Finset.mem_univ (3 : Fin 4)) B, e]
  exact congrArg₂ (fun P Q => iprop(P ∗ Q)) rfl (bigSep_congr fun b hb => if_pos b.isLt)

/-- The blocks of the tokens at rest: at the start all but the first, -/
theorem xhome_zero : bigSep Finset.univ A = iprop(A 0 ∗ bigSep (Ring.homeSet (NB := 4) 1 0) A) := by
  have e : (Finset.univ : Finset (Fin 4)).erase 0 = Ring.homeSet (NB := 4) 1 0 := by decide
  rw [Ring.bigSep_take (Finset.mem_univ (0 : Fin 4)) A, e]
/-- before a trip that fetches, the next block beside the rest, and after it the block in hand beside that rest, -/
theorem xhome_mid (k : ℕ) (h : k + 1 < 4) :
    bigSep (Ring.homeSet (NB := 4) 1 k) A = iprop(A (Ring.bk 4 (k + 1)) ∗ bigSep ((Ring.homeSet (NB := 4) 1 k).erase (Ring.bk 4 (k + 1))) A)
      ∧ bigSep (Ring.homeSet (NB := 4) 1 (k + 1)) A = iprop(A (Ring.bk 4 k) ∗ bigSep ((Ring.homeSet (NB := 4) 1 k).erase (Ring.bk 4 (k + 1))) A) := by
  refine ⟨?_, ?_⟩
  · conv_lhs => rw [Ring.homeSet_out 1 k h, Ring.bigSep_put (Ring.bkL_not_mem_erase 1 k)]
  · rw [Ring.homeSet_succ 1 k h, Ring.bigSep_put (Ring.bk_not_mem_erase 1 k (by omega) (by decide))]
/-- and after the last trip all. -/
theorem xhome_last (k : ℕ) (h : k < 4) (h' : ¬ k + 1 < 4) :
    bigSep (Ring.homeSet (NB := 4) 1 (k + 1)) A = iprop(A (Ring.bk 4 k) ∗ bigSep (Ring.homeSet (NB := 4) 1 k) A) := by
  rw [Ring.homeSet_succ_tail 1 k (by omega) h, Ring.bigSep_put (Ring.bk_not_mem_homeSet 1 k h (by decide))]

end Homes

/-! ## The invariant -/

section Loop
variable (c : Dev nD) (X : Buf (Elt F) (xA.view.loc (c : Thread nD τ))) (O0 G0 : Buf (Elt F) (pA.view.loc (c : Thread nD τ)))
  (O1 G1 : Buf (Elt F) (vA.view.loc (c : Thread nD τ))) (O2 G2 : Buf (Elt F) (iA.view.loc (c : Thread nD τ)))
  (arg1 : Memref sig .tc .vmem S1024x64 .f32) (harg1 : arg1.IsWhole)
  (arg2 : Memref sig .tc .vmem S1x64 .f32) (harg2 : arg2.IsWhole)
  (fw : Buf (Elt F) (arg1.view.loc (c : Thread nD τ))) (fb : Buf (Elt F) (arg2.view.loc (c : Thread nD τ)))

theorem sl_two (k : ℕ) : Ring.sl 2 (k + 1 + 1) = Ring.sl 2 k := Ring.sl_add 2 k

/-- The tokens before trip `k`: block `k` on its way in, the other slot free, the other blocks at rest. -/
def xInv (k : ℕ) : sProp 𝕄 :=
  iprop((if k < 4 then xFly c X (Ring.sl 2 k) (Ring.bk 4 k) else xFree (F := F) c (Ring.sl 2 k)) ∗ xFree (F := F) c (Ring.sl 2 (k + 1))
    ∗ bigSep (Ring.homeSet (NB := 4) 1 k) (xBlkP c X))
/-- The probabilities before trip `k`: block `k - 1` on its way out, if there is one, the other slot free, the other blocks at rest. -/
def pInv (O G : Buf (Elt F) (pA.view.loc (c : Thread nD τ))) (k : ℕ) : sProp 𝕄 :=
  iprop((if 1 ≤ k then pFly c O G (Ring.sl 2 (k + 1)) (Ring.bk 4 (k - 1)) else pFree (F := F) c (Ring.sl 2 (k + 1))) ∗ pFree (F := F) c (Ring.sl 2 k)
    ∗ hom (pBlkP c O) (pBlkP c G) k)
/-- The best values before trip `k`: block `k - 1` on its way out, if there is one, the other slot free, the other blocks at rest. -/
def vInv (O G : Buf (Elt F) (vA.view.loc (c : Thread nD τ))) (k : ℕ) : sProp 𝕄 :=
  iprop((if 1 ≤ k then vFly c O G (Ring.sl 2 (k + 1)) (Ring.bk 4 (k - 1)) else vFree (F := F) c (Ring.sl 2 (k + 1))) ∗ vFree (F := F) c (Ring.sl 2 k)
    ∗ hom (vBlkP c O) (vBlkP c G) k)
/-- The best lanes before trip `k`: block `k - 1` on its way out, if there is one, the other slot free, the other blocks at rest. -/
def iInv (O G : Buf (Elt F) (iA.view.loc (c : Thread nD τ))) (k : ℕ) : sProp 𝕄 :=
  iprop((if 1 ≤ k then iFly c O G (Ring.sl 2 (k + 1)) (Ring.bk 4 (k - 1)) else iFree (F := F) c (Ring.sl 2 (k + 1))) ∗ iFree (F := F) c (Ring.sl 2 k)
    ∗ hom (iBlkP c O) (iBlkP c G) k)

/-- Everything a trip touches, before trip `k`. -/
def walkInv (k : ℕ) : sProp 𝕄 :=
  iprop(wP c arg1 fw ∗ bP c arg2 fb ∗ (∃ W, owes (c : Thread nD τ) 0 W) ∗ xInv c X k ∗ pInv c O0 G0 k ∗ vInv c O1 G1 k ∗ iInv c O2 G2 k)

/-- ONE TRIP takes the invariant before it to the invariant after it. -/
theorem walk_step (hM : Made c X G0 G1 G2 arg1 arg2 fw fb) (k : Fin k0_t1_loop.trips) :
    walkInv c X O0 G0 O1 G1 O2 G2 arg1 arg2 fw fb k.val
      ⊢ wp frame (wpE (defs₀ (F := F)) 𝒱₀ (c : Thread nD τ) none) Set.univ (tripG (F := F) arg1 harg1 arg2 harg2 k)
          (fun acc' => iprop(⌜acc' = accAt (k.val + 1)⌝ ∗ walkInv c X O0 G0 O1 G1 O2 G2 arg1 arg2 fw fb (k.val + 1))) := by
  have hk : k.val < 4 := Nat.lt_of_lt_of_eq k.isLt trips_eq
  unfold walkInv xInv pInv vInv iInv
  rw [sl_two, if_pos hk, if_pos (show 1 ≤ k.val + 1 by omega), if_pos (show 1 ≤ k.val + 1 by omega), if_pos (show 1 ≤ k.val + 1 by omega), Nat.add_sub_cancel]
  by_cases h4 : k.val + 1 < 4
  · by_cases h1 : 1 ≤ k.val
    · rw [if_pos h4, if_pos h1, if_pos h1, if_pos h1, (hom_mid (pBlkP c O0) (pBlkP c G0) k.val h1 hk).1, (hom_mid (pBlkP c O0) (pBlkP c G0) k.val h1 hk).2, (hom_mid (vBlkP c O1) (vBlkP c G1) k.val h1 hk).1, (hom_mid (vBlkP c O1) (vBlkP c G1) k.val h1 hk).2, (hom_mid (iBlkP c O2) (iBlkP c G2) k.val h1 hk).1, (hom_mid (iBlkP c O2) (iBlkP c G2) k.val h1 hk).2, (xhome_mid (xBlkP c X) k.val h4).1, (xhome_mid (xBlkP c X) k.val h4).2]
      iintro ⟨Hw, Hb, HW, ⟨Hx, Hxf, ⟨Hxb, Hxr⟩⟩, ⟨Hp, Hpf, Hpb, Hpr⟩, ⟨Hv, Hvf, Hvb, Hvr⟩, ⟨Hi, Hif, Hib, Hir⟩⟩
      iapply (wp_wand_r Idealize.ShloMosaic.frame (wpE (defs₀ (F := F)) 𝒱₀ (c : Thread nD τ) none) Set.univ)
      isplitl [Hw Hb HW Hx Hxf Hxb Hp Hpf Hpb Hv Hvf Hvb Hi Hif Hib]
      · iapply (tripMid c X O0 G0 O1 G1 O2 G2 arg1 harg1 arg2 harg2 fw fb hM k h1 h4)
        iframe Hw Hb HW Hx Hxf Hxb Hp Hpf Hpb Hv Hvf Hvb Hi Hif Hib
      · iintro %acc ⟨%hacc, Hw, Hb, HW, Hx, Hxf, Hxb, Hp, Hpf, Hpb, Hv, Hvf, Hvb, Hi, Hif, Hib⟩
        isplitr
        · ipureintro; exact hacc
        iframe Hw Hb HW Hx Hxf Hxb Hxr Hp Hpf Hpb Hpr Hv Hvf Hvb Hvr Hi Hif Hib Hir
    · rw [if_pos h4, if_neg h1, if_neg h1, if_neg h1, hom_first (pBlkP c O0) (pBlkP c G0) k.val h1, hom_first (vBlkP c O1) (vBlkP c G1) k.val h1, hom_first (iBlkP c O2) (iBlkP c G2) k.val h1, (xhome_mid (xBlkP c X) k.val h4).1, (xhome_mid (xBlkP c X) k.val h4).2]
      iintro ⟨Hw, Hb, HW, ⟨Hx, Hxf, ⟨Hxb, Hxr⟩⟩, ⟨Hp, Hpf, Hpb, Hpr⟩, ⟨Hv, Hvf, Hvb, Hvr⟩, ⟨Hi, Hif, Hib, Hir⟩⟩
      iapply (wp_wand_r Idealize.ShloMosaic.frame (wpE (defs₀ (F := F)) 𝒱₀ (c : Thread nD τ) none) Set.univ)
      isplitl [Hw Hb HW Hx Hxf Hxb Hp Hpf Hpb Hv Hvf Hvb Hi Hif Hib]
      · iapply (tripFirst c X O0 G0 O1 G1 O2 G2 arg1 harg1 arg2 harg2 fw fb hM k h1 h4)
        iframe Hw Hb HW Hx Hxf Hxb Hp Hpf Hpb Hv Hvf Hvb Hi Hif Hib
      · iintro %acc ⟨%hacc, Hw, Hb, HW, Hx, Hxf, Hxb, Hp, Hpf, Hv, Hvf, Hi, Hif⟩
        isplitr
        · ipureintro; exact hacc
        iframe Hw Hb HW Hx Hxf Hxb Hxr Hp Hpf Hpr Hv Hvf Hvr Hi Hif Hir
  · have h1 : 1 ≤ k.val := by omega
    rw [if_neg h4, if_pos h1, if_pos h1, if_pos h1, (hom_mid (pBlkP c O0) (pBlkP c G0) k.val h1 hk).1, (hom_mid (pBlkP c O0) (pBlkP c G0) k.val h1 hk).2, (hom_mid (vBlkP c O1) (vBlkP c G1) k.val h1 hk).1, (hom_mid (vBlkP c O1) (vBlkP c G1) k.val h1 hk).2, (hom_mid (iBlkP c O2) (iBlkP c G2) k.val h1 hk).1, (hom_mid (iBlkP c O2) (iBlkP c G2) k.val h1 hk).2, xhome_last (xBlkP c X) k.val hk h4]
    iintro ⟨Hw, Hb, HW, ⟨Hx, Hxf, Hxr⟩, ⟨Hp, Hpf, Hpb, Hpr⟩, ⟨Hv, Hvf, Hvb, Hvr⟩, ⟨Hi, Hif, Hib, Hir⟩⟩
    iapply (wp_wand_r Idealize.ShloMosaic.frame (wpE (defs₀ (F := F)) 𝒱₀ (c : Thread nD τ) none) Set.univ)
    isplitl [Hw Hb HW Hx Hxf Hp Hpf Hpb Hv Hvf Hvb Hi Hif Hib]
    · iapply (tripLast c X O0 G0 O1 G1 O2 G2 arg1 harg1 arg2 harg2 fw fb hM k h1 h4)
      iframe Hw Hb HW Hx Hxf Hp Hpf Hpb Hv Hvf Hvb Hi Hif Hib
    · iintro %acc ⟨%hacc, Hw, Hb, HW, Hx, Hxf, Hxb, Hp, Hpf, Hpb, Hv, Hvf, Hvb, Hi, Hif, Hib⟩
      isplitr
      · ipureintro; exact hacc
      iframe Hw Hb HW Hx Hxf Hxb Hxr Hp Hpf Hpb Hpr Hv Hvf Hvb Hvr Hi Hif Hib Hir

set_option warn.classDefReducibility false in
/-- The invariant in the form the run of the body takes a counted loop by. -/
def loopInv (init : Acc) (hM : Made c X G0 G1 G2 arg1 arg2 fw fb) :
    LoopInvTy_k0_t1 (F := F) Unit ℕ UU ℕ 𝒱₀ c none Set.univ xA (Memref.isWhole_whole _) arg1 harg1 arg2 harg2 pA (Memref.isWhole_whole _) vA (Memref.isWhole_whole _)
      iA (Memref.isWhole_whole _) xR (Memref.isWhole_whole _) cc0_scoped1 pR (Memref.isWhole_whole _) cc0_scoped3 vR (Memref.isWhole_whole _) cc0_scoped5
      iR (Memref.isWhole_whole _) cc0_scoped7 init where
  inv k acc := iprop(⌜acc = accAt k⌝ ∗ walkInv c X O0 G0 O1 G1 O2 G2 arg1 arg2 fw fb k)
  step k acc := by
    iintro ⟨%hacc, H⟩
    have e : accAt k.val = accIn k.val := if_pos (Nat.lt_of_lt_of_eq k.isLt trips_eq)
    rw [e] at hacc
    subst hacc
    iapply (walk_step c X O0 G0 O1 G1 O2 G2 arg1 harg1 arg2 harg2 fw fb hM k)
    iexact H

end Loop

end Cert.Proof.Route

end
-- ==== Proof.Body.lean ====
/-
  The kernel body: the prologue starts the first block of tokens, the loop runs its four trips, the epilogue waits for the last
  block of each result.
-/
module

public import proofs.«01_k».proof.Proof.Walk

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Body
variable (c : Dev nD) (X : Buf (Elt F) (xA.view.loc (c : Thread nD τ))) (O0 G0 : Buf (Elt F) (pA.view.loc (c : Thread nD τ)))
  (O1 G1 : Buf (Elt F) (vA.view.loc (c : Thread nD τ))) (O2 G2 : Buf (Elt F) (iA.view.loc (c : Thread nD τ)))
  (arg1 : Memref sig .tc .vmem S1024x64 .f32) (harg1 : arg1.IsWhole)
  (arg2 : Memref sig .tc .vmem S1x64 .f32) (harg2 : arg2.IsWhole)
  (fw : Buf (Elt F) (arg1.view.loc (c : Thread nD τ))) (fb : Buf (Elt F) (arg2.view.loc (c : Thread nD τ)))

/-- The kernel on the given staging memrefs, its arrays, rings and semaphores its own. -/
abbrev bodyG : Prog (TpuEff nD τ sig (Elt F) Λ₀ .tc) PUnit :=
  cc0__outer xA (Memref.isWhole_whole _) arg1 harg1 arg2 harg2 pA (Memref.isWhole_whole _) vA (Memref.isWhole_whole _) iA (Memref.isWhole_whole _)
    xR (Memref.isWhole_whole _) cc0_scoped1 pR (Memref.isWhole_whole _) cc0_scoped3 vR (Memref.isWhole_whole _) cc0_scoped5 iR (Memref.isWhole_whole _) cc0_scoped7

/-- The arrays' blocks, the results' at `A0`, `A1`, `A2`, and the free slots: what the body holds besides its staged operands. -/
def held (A0 : Buf (Elt F) (pA.view.loc (c : Thread nD τ))) (A1 : Buf (Elt F) (vA.view.loc (c : Thread nD τ))) (A2 : Buf (Elt F) (iA.view.loc (c : Thread nD τ))) : sProp 𝕄 :=
  iprop((bigSep Finset.univ (xBlkP c X) ∗ xFree (F := F) c 0 ∗ xFree (F := F) c 1)
    ∗ (bigSep Finset.univ (pBlkP c A0) ∗ pFree (F := F) c 0 ∗ pFree (F := F) c 1)
    ∗ (bigSep Finset.univ (vBlkP c A1) ∗ vFree (F := F) c 0 ∗ vFree (F := F) c 1)
    ∗ (bigSep Finset.univ (iBlkP c A2) ∗ iFree (F := F) c 0 ∗ iFree (F := F) c 1))

/-- The invariant before the first trip, the first block of tokens on its way in; -/
theorem walk_start (f0 : Buf (Elt F) ((xSlot 0).view.loc (c : Thread nD τ))) :
    iprop(wP c arg1 fw ∗ bP c arg2 fb ∗ (∃ W, owes (c : Thread nD τ) 0 W)
      ∗ (xFlight c X 0 0 f0 ∗ xFree (F := F) c 1 ∗ bigSep (Ring.homeSet (NB := 4) 1 0) (xBlkP c X))
      ∗ (bigSep Finset.univ (pBlkP c O0) ∗ pFree (F := F) c 0 ∗ pFree (F := F) c 1)
      ∗ (bigSep Finset.univ (vBlkP c O1) ∗ vFree (F := F) c 0 ∗ vFree (F := F) c 1)
      ∗ (bigSep Finset.univ (iBlkP c O2) ∗ iFree (F := F) c 0 ∗ iFree (F := F) c 1))
      ⊢ walkInv c X O0 G0 O1 G1 O2 G2 arg1 arg2 fw fb 0 := by
  unfold walkInv xInv pInv vInv iInv xFly
  rw [if_pos (by decide), if_neg (by decide), if_neg (by decide), if_neg (by decide), hom_zero, hom_zero, hom_zero]
  iintro ⟨Hw, Hb, HW, ⟨Hx, Hxf, Hxr⟩, ⟨Hp, Hpf, Hpg⟩, ⟨Hv, Hvf, Hvg⟩, ⟨Hi, Hif, Hig⟩⟩
  iframe Hw Hb HW Hxf Hxr Hp Hpf Hpg Hv Hvf Hvg Hi Hif Hig
  iexists f0
  iexact Hx
/-- after the last, the last block of each result on its way out. -/
theorem walk_end :
    walkInv c X O0 G0 O1 G1 O2 G2 arg1 arg2 fw fb k0_t1_loop.trips
      ⊢ iprop(wP c arg1 fw ∗ bP c arg2 fb ∗ (∃ W, owes (c : Thread nD τ) 0 W)
      ∗ (xFree (F := F) c 0 ∗ xFree (F := F) c 1 ∗ bigSep Finset.univ (xBlkP c X))
      ∗ (pFly c O0 G0 1 3 ∗ pFree (F := F) c 0 ∗ hom (pBlkP c O0) (pBlkP c G0) 4)
      ∗ (vFly c O1 G1 1 3 ∗ vFree (F := F) c 0 ∗ hom (vBlkP c O1) (vBlkP c G1) 4)
      ∗ (iFly c O2 G2 1 3 ∗ iFree (F := F) c 0 ∗ hom (iBlkP c O2) (iBlkP c G2) 4)) := by
  rw [trips_eq]
  unfold walkInv xInv pInv vInv iInv
  rw [if_neg (by decide), if_pos (by decide), if_pos (by decide), if_pos (by decide), Ring.homeSet_last 1 4 (by decide)]
  exact .rfl

attribute [local irreducible] walkInv

/-! The epilogue's pieces under their names: the last block, in slot 1. -/

@[sl_canon] theorem pSemEnd (hh) : (cc0_scoped3.slice (Rect.unit (s := S2) ![1] S1.size hh)).squeeze S_ squeezes_S1_S_ = pSem 1 := pSem_of (by decide +kernel) _
@[sl_canon] theorem pSlotEnd (hh hs) : (pR.slice (Rect.unit (s := S2x2048x64) ![1, 0, 0] S1x2048x64.size hh) hs).squeeze S2048x64 squeezes_S1x2048x64_S2048x64 = pSlot 1 := pSlot_of (by decide +kernel) _ _
@[sl_canon] theorem pBlkEnd (hh hs) : pA.slice (Rect.unit (s := S8192x64) ![6144, 0] S2048x64.size hh) hs = pBlk 3 := pBlk_of (by decide +kernel) _ _
@[sl_canon] theorem vSemEnd (hh) : (cc0_scoped5.slice (Rect.unit (s := S2) ![1] S1.size hh)).squeeze S_ squeezes_S1_S_ = vSem 1 := vSem_of (by decide +kernel) _
@[sl_canon] theorem vSlotEnd (hh hs) : (vR.slice (Rect.unit (s := S2x2048x2) ![1, 0, 0] S1x2048x2.size hh) hs).squeeze S2048x2 squeezes_S1x2048x2_S2048x2 = vSlot 1 := vSlot_of (by decide +kernel) _ _
@[sl_canon] theorem vBlkEnd (hh hs) : vA.slice (Rect.unit (s := S8192x2) ![6144, 0] S2048x2.size hh) hs = vBlk 3 := vBlk_of (by decide +kernel) _ _
@[sl_canon] theorem iSemEnd (hh) : (cc0_scoped7.slice (Rect.unit (s := S2) ![1] S1.size hh)).squeeze S_ squeezes_S1_S_ = iSem 1 := iSem_of (by decide +kernel) _
@[sl_canon] theorem iSlotEnd (hh hs) : (iR.slice (Rect.unit (s := S2x2048x2) ![1, 0, 0] S1x2048x2.size hh) hs).squeeze S2048x2 squeezes_S1x2048x2_S2048x2 = iSlot 1 := iSlot_of (by decide +kernel) _ _
@[sl_canon] theorem iBlkEnd (hh hs) : iA.slice (Rect.unit (s := S8192x2) ![6144, 0] S2048x2.size hh) hs = iBlk 3 := iBlk_of (by decide +kernel) _ _

/-- THE BODY: from the arrays' blocks at anything to the results' blocks as the kernel makes them. -/
theorem bodyRun (hM : Made c X G0 G1 G2 arg1 arg2 fw fb) (Q : PUnit → sProp 𝕄) :
    iprop((wP c arg1 fw ∗ bP c arg2 fb ∗ (∃ W, owes (c : Thread nD τ) 0 W) ∗ held c X O0 O1 O2)
      ∗ ((wP c arg1 fw ∗ bP c arg2 fb ∗ (∃ W, owes (c : Thread nD τ) 0 W) ∗ held c X G0 G1 G2) -∗ Q ⟨⟩))
      ⊢ wp frame (wpE (defs₀ (F := F)) 𝒱₀ (c : Thread nD τ) none) Set.univ (bodyG (F := F) arg1 harg1 arg2 harg2) Q := by
  unfold held
  iintro ⟨⟨Hw, Hb, ⟨%W, HW⟩, ⟨Hx, Hxf0, Hxf1⟩, Hp, Hv, Hi⟩, Hk⟩
  ihave Hx' := (ent_of_eq (xhome_zero (xBlkP c X))) $$ Hx
  icases Hx' with ⟨Hx0, Hxr⟩
  ihave Hxf0' := (show xFree (F := F) c 0 ⊢ iprop((∃ f, xSlotP (F := F) c 0 f) ∗ xCellP (F := F) c 0) from .rfl) $$ Hxf0
  icases Hxf0' with ⟨⟨%f0, Hxs⟩, Hxc⟩
  sl_exec
  sl_unfold_run_names
  ihave HI := (walk_start c X O0 G0 O1 G1 O2 G2 arg1 arg2 fw fb f0) $$ [Hw Hb HW Hxr Hxf1 Hxc Hp Hv Hi]
  · iframe Hw Hb Hxr Hxf1 Hp Hv Hi
    isplitl [HW]
    · iexists W; iexact HW
    · iexact Hxc
  let L := fun init => loopInv c X O0 G0 O1 G1 O2 G2 arg1 harg1 arg2 harg2 fw fb init hM
  have h0 : ((1#32, 0#32, 0#32, 0#32, 0#32, 0#32, 0#32, 0#32, 0#32) : Acc) = accAt 0 := rfl
  sl_exec
  ihave HE := (walk_end c X O0 G0 O1 G1 O2 G2 arg1 arg2 fw fb) $$ HI
  icases HE with ⟨Hw, Hb, ⟨%W', HW⟩, ⟨Hxf0, Hxf1, Hx⟩, ⟨Hp, Hpf0, Hpr⟩, ⟨Hv, Hvf0, Hvr⟩, ⟨Hi, Hif0, Hir⟩⟩
  ihave Hp' := (show pFly c O0 G0 1 3 ⊢ iprop(∃ f, ⌜(pSlot 1).view.read (Elt F) f = (pBlk 3).view.read (Elt F) G0⌝ ∗ pFlight c O0 1 3 f) from .rfl) $$ Hp
  icases Hp' with ⟨%fp, %hp, Hp⟩
  ihave Hv' := (show vFly c O1 G1 1 3 ⊢ iprop(∃ f, ⌜(vSlot 1).view.read (Elt F) f = (vBlk 3).view.read (Elt F) G1⌝ ∗ vFlight c O1 1 3 f) from .rfl) $$ Hv
  icases Hv' with ⟨%fv, %hv, Hv⟩
  ihave Hi' := (show iFly c O2 G2 1 3 ⊢ iprop(∃ f, ⌜(iSlot 1).view.read (Elt F) f = (iBlk 3).view.read (Elt F) G2⌝ ∗ iFlight c O2 1 3 f) from .rfl) $$ Hi
  icases Hi' with ⟨%fi, %hi, Hi⟩
  sl_exec
  sl_step
  iapply Hk
  ihave Hp_dst := (pDone c O0 G0 1 3 fp hp) $$ Hp_dst
  ihave Hpa := (ent_of_eq (hom_end (pBlkP c O0) (pBlkP c G0))) $$ [Hp_dst Hpr]
  · iframe Hp_dst Hpr
  ihave Hv_dst := (vDone c O1 G1 1 3 fv hv) $$ Hv_dst
  ihave Hva := (ent_of_eq (hom_end (vBlkP c O1) (vBlkP c G1))) $$ [Hv_dst Hvr]
  · iframe Hv_dst Hvr
  ihave Hi_dst := (iDone c O2 G2 1 3 fi hi) $$ Hi_dst
  ihave Hia := (ent_of_eq (hom_end (iBlkP c O2) (iBlkP c G2))) $$ [Hi_dst Hir]
  · iframe Hi_dst Hir
  iframe Hw Hb Hx Hxf0 Hxf1 Hpa Hpf0 Hva Hvf0 Hia Hif0
  isplitl [HW]
  · iexists _; iexact HW
  isplitl [Hp_src Hp]
  · unfold pFree
    isplitl [Hp_src]
    · iexists fp; iexact Hp_src
    · iexact Hp
  isplitl [Hv_src Hv]
  · unfold vFree
    isplitl [Hv_src]
    · iexists fv; iexact Hv_src
    · iexact Hv
  unfold iFree
  isplitl [Hi_src]
  · iexists fi; iexact Hi_src
  · iexact Hi

end Body

end Cert.Proof.Route

end
-- ==== Proof.Split.lean ====
/-
  The arrays and the rings cut into the pieces the loop moves: each array in HBM is its four blocks, each ring in VMEM its two
  slots, the kernel's own semaphores its eight transfer cells; and an array stacked from four blocks, read back block by block.
-/
module

public import proofs.«01_k».proof.Proof.Body

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

omit [FloatOps F] in
/-- A conjunction over the two slots, written out. -/
theorem overSlots (Φ : Fin 2 → sProp 𝕄) : bigSep Finset.univ Φ = iprop(Φ 0 ∗ Φ 1) :=
  bigSep_univ_eq_bigSepL [(0 : Fin 2), (1 : Fin 2)] (by decide) (by decide) Φ

/-! ## The tokens -/

/-- The elements of block `b` of the array and of slot `s` of the ring. -/
abbrev xRows (b : Fin 4) : Finset S8192x1024.Idx := (Rect.unit (s := S8192x1024) (rowAt b) S2048x1024.size (rowX_inb b)).set
abbrev xHalf (s : Fin 2) : Finset S2x2048x1024.Idx := (Rect.unit (s := S2x2048x1024) (slotAt s) S1x2048x1024.size (slotX_inb s)).set
theorem xBlk_set (b : Fin 4) : (xBlk b).view.set = xRows b := View.set_slice_whole _ _
theorem xSlot_set (s : Fin 2) : (xSlot s).view.set = xHalf s := (View.set_reshape _ _).trans (View.set_slice_whole _ _)
theorem xRows_apart : ∀ b b' : Fin 4, b ≠ b' → Disjoint (xRows b) (xRows b') :=
  Ring.lead_disjoint (s := S8192x1024) 0 2048 rowAt S2048x1024.size rowX_inb (fun _ => rfl) rfl
theorem xRows_all : Finset.univ.biUnion xRows = Finset.univ :=
  Ring.lead_cover (s := S8192x1024) 0 2048 rowAt S2048x1024.size rowX_inb (fun _ => rfl) (by decide) rfl (by decide) rfl
theorem xHalf_apart : ∀ s s' : Fin 2, s ≠ s' → Disjoint (xHalf s) (xHalf s') :=
  Ring.lead_disjoint (s := S2x2048x1024) 0 1 slotAt S1x2048x1024.size slotX_inb (fun s => (Nat.one_mul s.val).symm) rfl
theorem xHalf_all : Finset.univ.biUnion xHalf = Finset.univ :=
  Ring.lead_cover (s := S2x2048x1024) 0 1 slotAt S1x2048x1024.size slotX_inb (fun s => (Nat.one_mul s.val).symm) (by decide) rfl (by decide) rfl

/-- The array whole is its four blocks. -/
theorem xArr_eq (c : Dev nD) (A : Buf (Elt F) (xA.view.loc (c : Thread nD τ))) :
    (((c : Thread nD τ).loc main_call0_v0) ↦{fullShare} A : sProp 𝕄) = bigSep Finset.univ (xBlkP c A) := by
  rw [Ring.pointsTo_blocks (Ix := Unit) (Name := ℕ) (U := UU) (Lvl := ℕ) (q := fullShare) (ℓ := (c : Thread nD τ).loc main_call0_v0) xRows xRows_apart xRows_all A]
  exact bigSep_congr fun b _ => by rw [← xBlk_set]; rfl
/-- The ring whole, at anything, splits into its two slots at anything, -/
theorem xRing_cut (c : Dev nD) :
    iprop(∃ f : Buf (Elt F) ((c : Thread nD τ).loc cc0_scoped0), ((c : Thread nD τ).loc cc0_scoped0) ↦{fullShare} f)
      ⊢ (iprop((∃ f, xSlotP c 0 f) ∗ ∃ f, xSlotP c 1 f) : sProp 𝕄) := by
  have e : ∀ (s : Fin 2) (f : Buf (Elt F) ((c : Thread nD τ).loc cc0_scoped0)),
      (((c : Thread nD τ).loc cc0_scoped0) ↦[xHalf s]{fullShare} f : sProp 𝕄) = xSlotP c s f := fun s f =>
    congrArg (fun S => (((c : Thread nD τ).loc cc0_scoped0) ↦[S]{fullShare} f : sProp 𝕄)) (xSlot_set s).symm
  iintro ⟨%f, H⟩
  ihave H2 := (ent_of_eq ((Ring.pointsTo_blocks (Ix := Unit) (Name := ℕ) (U := UU) (Lvl := ℕ) (q := fullShare) (ℓ := (c : Thread nD τ).loc cc0_scoped0) xHalf xHalf_apart xHalf_all f).trans (overSlots _))) $$ H
  icases H2 with ⟨H0, H1⟩
  isplitl [H0]
  · iexists f; iapply (ent_of_eq (e 0 f)); iexact H0
  · iexists f; iapply (ent_of_eq (e 1 f)); iexact H1
/-- and its two slots join back. -/
theorem xRing_join (c : Dev nD) :
    iprop((∃ f, xSlotP c 0 f) ∗ ∃ f, xSlotP c 1 f)
      ⊢ (iprop(∃ f : Buf (Elt F) ((c : Thread nD τ).loc cc0_scoped0), ((c : Thread nD τ).loc cc0_scoped0) ↦{fullShare} f) : sProp 𝕄) := by
  have e : ∀ (s : Fin 2) (f : Buf (Elt F) ((c : Thread nD τ).loc cc0_scoped0)),
      (((c : Thread nD τ).loc cc0_scoped0) ↦[xHalf s]{fullShare} f : sProp 𝕄) = xSlotP c s f := fun s f =>
    congrArg (fun S => (((c : Thread nD τ).loc cc0_scoped0) ↦[S]{fullShare} f : sProp 𝕄)) (xSlot_set s).symm
  iintro ⟨⟨%f0, H0⟩, ⟨%f1, H1⟩⟩
  iapply (Ring.pointsTo_blocks_join_exists (ℓ := (c : Thread nD τ).loc cc0_scoped0) xHalf xHalf_apart xHalf_all f0)
  irw [overSlots]
  isplitl [H0]
  · iexists f0; iapply (ent_of_eq (e 0 f0).symm); iexact H0
  · iexists f1; iapply (ent_of_eq (e 1 f1).symm); iexact H1

/-! ## The probabilities -/

/-- The elements of block `b` of the array and of slot `s` of the ring. -/
abbrev pRows (b : Fin 4) : Finset S8192x64.Idx := (Rect.unit (s := S8192x64) (rowAt b) S2048x64.size (rowP_inb b)).set
abbrev pHalf (s : Fin 2) : Finset S2x2048x64.Idx := (Rect.unit (s := S2x2048x64) (slotAt s) S1x2048x64.size (slotP_inb s)).set
theorem pBlk_set (b : Fin 4) : (pBlk b).view.set = pRows b := View.set_slice_whole _ _
theorem pSlot_set (s : Fin 2) : (pSlot s).view.set = pHalf s := (View.set_reshape _ _).trans (View.set_slice_whole _ _)
theorem pRows_apart : ∀ b b' : Fin 4, b ≠ b' → Disjoint (pRows b) (pRows b') :=
  Ring.lead_disjoint (s := S8192x64) 0 2048 rowAt S2048x64.size rowP_inb (fun _ => rfl) rfl
theorem pRows_all : Finset.univ.biUnion pRows = Finset.univ :=
  Ring.lead_cover (s := S8192x64) 0 2048 rowAt S2048x64.size rowP_inb (fun _ => rfl) (by decide) rfl (by decide) rfl
theorem pHalf_apart : ∀ s s' : Fin 2, s ≠ s' → Disjoint (pHalf s) (pHalf s') :=
  Ring.lead_disjoint (s := S2x2048x64) 0 1 slotAt S1x2048x64.size slotP_inb (fun s => (Nat.one_mul s.val).symm) rfl
theorem pHalf_all : Finset.univ.biUnion pHalf = Finset.univ :=
  Ring.lead_cover (s := S2x2048x64) 0 1 slotAt S1x2048x64.size slotP_inb (fun s => (Nat.one_mul s.val).symm) (by decide) rfl (by decide) rfl

/-- The array whole is its four blocks. -/
theorem pArr_eq (c : Dev nD) (A : Buf (Elt F) (pA.view.loc (c : Thread nD τ))) :
    (((c : Thread nD τ).loc main_call0_v2_0) ↦{fullShare} A : sProp 𝕄) = bigSep Finset.univ (pBlkP c A) := by
  rw [Ring.pointsTo_blocks (Ix := Unit) (Name := ℕ) (U := UU) (Lvl := ℕ) (q := fullShare) (ℓ := (c : Thread nD τ).loc main_call0_v2_0) pRows pRows_apart pRows_all A]
  exact bigSep_congr fun b _ => by rw [← pBlk_set]; rfl
/-- The ring whole, at anything, splits into its two slots at anything, -/
theorem pRing_cut (c : Dev nD) :
    iprop(∃ f : Buf (Elt F) ((c : Thread nD τ).loc cc0_scoped2), ((c : Thread nD τ).loc cc0_scoped2) ↦{fullShare} f)
      ⊢ (iprop((∃ f, pSlotP c 0 f) ∗ ∃ f, pSlotP c 1 f) : sProp 𝕄) := by
  have e : ∀ (s : Fin 2) (f : Buf (Elt F) ((c : Thread nD τ).loc cc0_scoped2)),
      (((c : Thread nD τ).loc cc0_scoped2) ↦[pHalf s]{fullShare} f : sProp 𝕄) = pSlotP c s f := fun s f =>
    congrArg (fun S => (((c : Thread nD τ).loc cc0_scoped2) ↦[S]{fullShare} f : sProp 𝕄)) (pSlot_set s).symm
  iintro ⟨%f, H⟩
  ihave H2 := (ent_of_eq ((Ring.pointsTo_blocks (Ix := Unit) (Name := ℕ) (U := UU) (Lvl := ℕ) (q := fullShare) (ℓ := (c : Thread nD τ).loc cc0_scoped2) pHalf pHalf_apart pHalf_all f).trans (overSlots _))) $$ H
  icases H2 with ⟨H0, H1⟩
  isplitl [H0]
  · iexists f; iapply (ent_of_eq (e 0 f)); iexact H0
  · iexists f; iapply (ent_of_eq (e 1 f)); iexact H1
/-- and its two slots join back. -/
theorem pRing_join (c : Dev nD) :
    iprop((∃ f, pSlotP c 0 f) ∗ ∃ f, pSlotP c 1 f)
      ⊢ (iprop(∃ f : Buf (Elt F) ((c : Thread nD τ).loc cc0_scoped2), ((c : Thread nD τ).loc cc0_scoped2) ↦{fullShare} f) : sProp 𝕄) := by
  have e : ∀ (s : Fin 2) (f : Buf (Elt F) ((c : Thread nD τ).loc cc0_scoped2)),
      (((c : Thread nD τ).loc cc0_scoped2) ↦[pHalf s]{fullShare} f : sProp 𝕄) = pSlotP c s f := fun s f =>
    congrArg (fun S => (((c : Thread nD τ).loc cc0_scoped2) ↦[S]{fullShare} f : sProp 𝕄)) (pSlot_set s).symm
  iintro ⟨⟨%f0, H0⟩, ⟨%f1, H1⟩⟩
  iapply (Ring.pointsTo_blocks_join_exists (ℓ := (c : Thread nD τ).loc cc0_scoped2) pHalf pHalf_apart pHalf_all f0)
  irw [overSlots]
  isplitl [H0]
  · iexists f0; iapply (ent_of_eq (e 0 f0).symm); iexact H0
  · iexists f1; iapply (ent_of_eq (e 1 f1).symm); iexact H1

/-! ## The best values -/

/-- The elements of block `b` of the array and of slot `s` of the ring. -/
abbrev vRows (b : Fin 4) : Finset S8192x2.Idx := (Rect.unit (s := S8192x2) (rowAt b) S2048x2.size (rowV_inb b)).set
abbrev vHalf (s : Fin 2) : Finset S2x2048x2.Idx := (Rect.unit (s := S2x2048x2) (slotAt s) S1x2048x2.size (slotV_inb s)).set
theorem vBlk_set (b : Fin 4) : (vBlk b).view.set = vRows b := View.set_slice_whole _ _
theorem vSlot_set (s : Fin 2) : (vSlot s).view.set = vHalf s := (View.set_reshape _ _).trans (View.set_slice_whole _ _)
theorem vRows_apart : ∀ b b' : Fin 4, b ≠ b' → Disjoint (vRows b) (vRows b') :=
  Ring.lead_disjoint (s := S8192x2) 0 2048 rowAt S2048x2.size rowV_inb (fun _ => rfl) rfl
theorem vRows_all : Finset.univ.biUnion vRows = Finset.univ :=
  Ring.lead_cover (s := S8192x2) 0 2048 rowAt S2048x2.size rowV_inb (fun _ => rfl) (by decide) rfl (by decide) rfl
theorem vHalf_apart : ∀ s s' : Fin 2, s ≠ s' → Disjoint (vHalf s) (vHalf s') :=
  Ring.lead_disjoint (s := S2x2048x2) 0 1 slotAt S1x2048x2.size slotV_inb (fun s => (Nat.one_mul s.val).symm) rfl
theorem vHalf_all : Finset.univ.biUnion vHalf = Finset.univ :=
  Ring.lead_cover (s := S2x2048x2) 0 1 slotAt S1x2048x2.size slotV_inb (fun s => (Nat.one_mul s.val).symm) (by decide) rfl (by decide) rfl

/-- The array whole is its four blocks. -/
theorem vArr_eq (c : Dev nD) (A : Buf (Elt F) (vA.view.loc (c : Thread nD τ))) :
    (((c : Thread nD τ).loc main_call0_v2_1) ↦{fullShare} A : sProp 𝕄) = bigSep Finset.univ (vBlkP c A) := by
  rw [Ring.pointsTo_blocks (Ix := Unit) (Name := ℕ) (U := UU) (Lvl := ℕ) (q := fullShare) (ℓ := (c : Thread nD τ).loc main_call0_v2_1) vRows vRows_apart vRows_all A]
  exact bigSep_congr fun b _ => by rw [← vBlk_set]; rfl
/-- The ring whole, at anything, splits into its two slots at anything, -/
theorem vRing_cut (c : Dev nD) :
    iprop(∃ f : Buf (Elt F) ((c : Thread nD τ).loc cc0_scoped4), ((c : Thread nD τ).loc cc0_scoped4) ↦{fullShare} f)
      ⊢ (iprop((∃ f, vSlotP c 0 f) ∗ ∃ f, vSlotP c 1 f) : sProp 𝕄) := by
  have e : ∀ (s : Fin 2) (f : Buf (Elt F) ((c : Thread nD τ).loc cc0_scoped4)),
      (((c : Thread nD τ).loc cc0_scoped4) ↦[vHalf s]{fullShare} f : sProp 𝕄) = vSlotP c s f := fun s f =>
    congrArg (fun S => (((c : Thread nD τ).loc cc0_scoped4) ↦[S]{fullShare} f : sProp 𝕄)) (vSlot_set s).symm
  iintro ⟨%f, H⟩
  ihave H2 := (ent_of_eq ((Ring.pointsTo_blocks (Ix := Unit) (Name := ℕ) (U := UU) (Lvl := ℕ) (q := fullShare) (ℓ := (c : Thread nD τ).loc cc0_scoped4) vHalf vHalf_apart vHalf_all f).trans (overSlots _))) $$ H
  icases H2 with ⟨H0, H1⟩
  isplitl [H0]
  · iexists f; iapply (ent_of_eq (e 0 f)); iexact H0
  · iexists f; iapply (ent_of_eq (e 1 f)); iexact H1
/-- and its two slots join back. -/
theorem vRing_join (c : Dev nD) :
    iprop((∃ f, vSlotP c 0 f) ∗ ∃ f, vSlotP c 1 f)
      ⊢ (iprop(∃ f : Buf (Elt F) ((c : Thread nD τ).loc cc0_scoped4), ((c : Thread nD τ).loc cc0_scoped4) ↦{fullShare} f) : sProp 𝕄) := by
  have e : ∀ (s : Fin 2) (f : Buf (Elt F) ((c : Thread nD τ).loc cc0_scoped4)),
      (((c : Thread nD τ).loc cc0_scoped4) ↦[vHalf s]{fullShare} f : sProp 𝕄) = vSlotP c s f := fun s f =>
    congrArg (fun S => (((c : Thread nD τ).loc cc0_scoped4) ↦[S]{fullShare} f : sProp 𝕄)) (vSlot_set s).symm
  iintro ⟨⟨%f0, H0⟩, ⟨%f1, H1⟩⟩
  iapply (Ring.pointsTo_blocks_join_exists (ℓ := (c : Thread nD τ).loc cc0_scoped4) vHalf vHalf_apart vHalf_all f0)
  irw [overSlots]
  isplitl [H0]
  · iexists f0; iapply (ent_of_eq (e 0 f0).symm); iexact H0
  · iexists f1; iapply (ent_of_eq (e 1 f1).symm); iexact H1

/-! ## The best lanes -/

/-- The elements of block `b` of the array and of slot `s` of the ring. -/
abbrev iRows (b : Fin 4) : Finset S8192x2.Idx := (Rect.unit (s := S8192x2) (rowAt b) S2048x2.size (rowV_inb b)).set
abbrev iHalf (s : Fin 2) : Finset S2x2048x2.Idx := (Rect.unit (s := S2x2048x2) (slotAt s) S1x2048x2.size (slotV_inb s)).set
theorem iBlk_set (b : Fin 4) : (iBlk b).view.set = iRows b := View.set_slice_whole _ _
theorem iSlot_set (s : Fin 2) : (iSlot s).view.set = iHalf s := (View.set_reshape _ _).trans (View.set_slice_whole _ _)
theorem iRows_apart : ∀ b b' : Fin 4, b ≠ b' → Disjoint (iRows b) (iRows b') :=
  Ring.lead_disjoint (s := S8192x2) 0 2048 rowAt S2048x2.size rowV_inb (fun _ => rfl) rfl
theorem iRows_all : Finset.univ.biUnion iRows = Finset.univ :=
  Ring.lead_cover (s := S8192x2) 0 2048 rowAt S2048x2.size rowV_inb (fun _ => rfl) (by decide) rfl (by decide) rfl
theorem iHalf_apart : ∀ s s' : Fin 2, s ≠ s' → Disjoint (iHalf s) (iHalf s') :=
  Ring.lead_disjoint (s := S2x2048x2) 0 1 slotAt S1x2048x2.size slotV_inb (fun s => (Nat.one_mul s.val).symm) rfl
theorem iHalf_all : Finset.univ.biUnion iHalf = Finset.univ :=
  Ring.lead_cover (s := S2x2048x2) 0 1 slotAt S1x2048x2.size slotV_inb (fun s => (Nat.one_mul s.val).symm) (by decide) rfl (by decide) rfl

/-- The array whole is its four blocks. -/
theorem iArr_eq (c : Dev nD) (A : Buf (Elt F) (iA.view.loc (c : Thread nD τ))) :
    (((c : Thread nD τ).loc main_call0_v2_2) ↦{fullShare} A : sProp 𝕄) = bigSep Finset.univ (iBlkP c A) := by
  rw [Ring.pointsTo_blocks (Ix := Unit) (Name := ℕ) (U := UU) (Lvl := ℕ) (q := fullShare) (ℓ := (c : Thread nD τ).loc main_call0_v2_2) iRows iRows_apart iRows_all A]
  exact bigSep_congr fun b _ => by rw [← iBlk_set]; rfl
/-- The ring whole, at anything, splits into its two slots at anything, -/
theorem iRing_cut (c : Dev nD) :
    iprop(∃ f : Buf (Elt F) ((c : Thread nD τ).loc cc0_scoped6), ((c : Thread nD τ).loc cc0_scoped6) ↦{fullShare} f)
      ⊢ (iprop((∃ f, iSlotP c 0 f) ∗ ∃ f, iSlotP c 1 f) : sProp 𝕄) := by
  have e : ∀ (s : Fin 2) (f : Buf (Elt F) ((c : Thread nD τ).loc cc0_scoped6)),
      (((c : Thread nD τ).loc cc0_scoped6) ↦[iHalf s]{fullShare} f : sProp 𝕄) = iSlotP c s f := fun s f =>
    congrArg (fun S => (((c : Thread nD τ).loc cc0_scoped6) ↦[S]{fullShare} f : sProp 𝕄)) (iSlot_set s).symm
  iintro ⟨%f, H⟩
  ihave H2 := (ent_of_eq ((Ring.pointsTo_blocks (Ix := Unit) (Name := ℕ) (U := UU) (Lvl := ℕ) (q := fullShare) (ℓ := (c : Thread nD τ).loc cc0_scoped6) iHalf iHalf_apart iHalf_all f).trans (overSlots _))) $$ H
  icases H2 with ⟨H0, H1⟩
  isplitl [H0]
  · iexists f; iapply (ent_of_eq (e 0 f)); iexact H0
  · iexists f; iapply (ent_of_eq (e 1 f)); iexact H1
/-- and its two slots join back. -/
theorem iRing_join (c : Dev nD) :
    iprop((∃ f, iSlotP c 0 f) ∗ ∃ f, iSlotP c 1 f)
      ⊢ (iprop(∃ f : Buf (Elt F) ((c : Thread nD τ).loc cc0_scoped6), ((c : Thread nD τ).loc cc0_scoped6) ↦{fullShare} f) : sProp 𝕄) := by
  have e : ∀ (s : Fin 2) (f : Buf (Elt F) ((c : Thread nD τ).loc cc0_scoped6)),
      (((c : Thread nD τ).loc cc0_scoped6) ↦[iHalf s]{fullShare} f : sProp 𝕄) = iSlotP c s f := fun s f =>
    congrArg (fun S => (((c : Thread nD τ).loc cc0_scoped6) ↦[S]{fullShare} f : sProp 𝕄)) (iSlot_set s).symm
  iintro ⟨⟨%f0, H0⟩, ⟨%f1, H1⟩⟩
  iapply (Ring.pointsTo_blocks_join_exists (ℓ := (c : Thread nD τ).loc cc0_scoped6) iHalf iHalf_apart iHalf_all f0)
  irw [overSlots]
  isplitl [H0]
  · iexists f0; iapply (ent_of_eq (e 0 f0).symm); iexact H0
  · iexists f1; iapply (ent_of_eq (e 1 f1).symm); iexact H1

/-! ## Arrays stacked from four blocks -/

/-- The array whose block `b` is `P b`. -/
def stack {α : Type} {n : ℕ} (P : Fin 4 → (⟨2, ![2048, n]⟩ : Shape).Idx → α) : (⟨2, ![8192, n]⟩ : Shape).Idx → α := fun y =>
  P (Fin.ofNat 4 ((y 0).val / 2048)) fun a => match a with
    | ⟨0, _⟩ => ⟨(y 0).val % 2048, Nat.mod_lt _ (by decide)⟩
    | ⟨1, _⟩ => y 1
/-- Its element at row `x` of block `b`. -/
theorem stack_at {α : Type} {n : ℕ} (P : Fin 4 → (⟨2, ![2048, n]⟩ : Shape).Idx → α) (z : (⟨2, ![8192, n]⟩ : Shape).Idx) (b : Fin 4)
    (y : (⟨2, ![2048, n]⟩ : Shape).Idx) (h0 : (z 0).val = 2048 * b.val + (y 0).val) (h1 : (z 1).val = (y 1).val) : stack P z = P b y := by
  have hy : (y 0).val < 2048 := (y 0).isLt
  have hb : Fin.ofNat 4 ((z 0).val / 2048) = b := Fin.ext (by
    have := b.isLt
    show (z 0).val / 2048 % 4 = b.val
    omega)
  have key : ∀ b' y', b' = b → y' = y → P b' y' = P b y := fun _ _ e e' => by rw [e, e']
  refine key _ _ hb (funext fun a => ?_)
  match a with
  | ⟨0, _⟩ => exact Fin.ext (show (z 0).val % 2048 = (y 0).val by omega)
  | ⟨1, _⟩ => exact Fin.ext h1
/-- Read at block `b`, it is `P b`. -/
theorem pBlk_stack (b : Fin 4) (P : Fin 4 → S2048x64.Idx → Elt F .f32) :
    (pBlk b).view.read (Elt F) (stack (n := 64) P : S8192x64.Idx → Elt F .f32) = P b := by
  funext y
  have h0 : (y 0).val < 2048 := (y 0).isLt
  refine (View.read_apply ..).trans ?_
  show stack (n := 64) P ((pBlk b).view.emb y) = P b y
  exact stack_at (n := 64) P _ b y (show 2048 * b.val + 1 * (y 0).val = _ by omega) (show 0 + 1 * (y 1).val = (y 1).val by omega)
/-- Read at block `b`, it is `P b`. -/
theorem vBlk_stack (b : Fin 4) (P : Fin 4 → S2048x2.Idx → Elt F .f32) :
    (vBlk b).view.read (Elt F) (stack (n := 2) P : S8192x2.Idx → Elt F .f32) = P b := by
  funext y
  have h0 : (y 0).val < 2048 := (y 0).isLt
  refine (View.read_apply ..).trans ?_
  show stack (n := 2) P ((vBlk b).view.emb y) = P b y
  exact stack_at (n := 2) P _ b y (show 2048 * b.val + 1 * (y 0).val = _ by omega) (show 0 + 1 * (y 1).val = (y 1).val by omega)
/-- Read at block `b`, it is `P b`. -/
theorem iBlk_stack (b : Fin 4) (P : Fin 4 → S2048x2.Idx → Elt F .i32) :
    (iBlk b).view.read (Elt F) (stack (n := 2) P : S8192x2.Idx → Elt F .i32) = P b := by
  funext y
  have h0 : (y 0).val < 2048 := (y 0).isLt
  refine (View.read_apply ..).trans ?_
  show stack (n := 2) P ((iBlk b).view.emb y) = P b y
  exact stack_at (n := 2) P _ b y (show 2048 * b.val + 1 * (y 0).val = _ by omega) (show 0 + 1 * (y 1).val = (y 1).val by omega)

end Cert.Proof.Route

end
-- ==== Proof.Launch.lean ====
/-
  The launch around the body: the pipeline's proof data, its body obligation, and the run of the whole program — for any float
  values, from any memory, the three results end as the kernel's arithmetic makes them, the arguments as they were, every counter
  at zero.
-/
module

public import proofs.«01_k».proof.Proof.Split
public import proofs.«01_k».proof.Proof.Gen.KernelIdeal.Frame

@[expose] public section

noncomputable section

set_option maxRecDepth 16384

namespace Cert.Proof.Route

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## What the region finds, and what it leaves -/

/-- The token rows, the weights and the bias row as the region finds them. -/
abbrev Xm (c : Dev nD) : Buf (Elt F) (xA.view.loc (c : Thread nD τ)) := V m c main_call0_v0
abbrev Wm (c : Dev nD) : Vec F S1024x64 .f32 := V m c main_arg1
abbrev Bm (c : Dev nD) : Vec F S1x64 .f32 := V m c main_call0_v1

/-- The three results as the kernel makes them, block by block. -/
def G0 (c : Dev nD) : Buf (Elt F) (pA.view.loc (c : Thread nD τ)) := stack (n := 64) fun b => P0 (XT (Xm m c) b) (Wm m c) (Bm m c)
def G1 (c : Dev nD) : Buf (Elt F) (vA.view.loc (c : Thread nD τ)) := stack (n := 2) fun b => P1 (XT (Xm m c) b) (Wm m c) (Bm m c)
def G2 (c : Dev nD) : Buf (Elt F) (iA.view.loc (c : Thread nD τ)) := stack (n := 2) fun b => P2 (XT (Xm m c) b) (Wm m c) (Bm m c)

/-! ## The pipeline's proof data -/

abbrev st0 (t : Fin cfg0.N) : Memref sig .tc .vmem S1024x64 .f32 := win0_0.stage (cfg0.slots t 0)
abbrev st1 (t : Fin cfg0.N) : Memref sig .tc .vmem S1x64 .f32 := win0_1.stage (cfg0.slots t 1)
abbrev hst0 (t : Fin cfg0.N) : (st0 t).IsWhole := hstage0_0 0
abbrev hst1 (t : Fin cfg0.N) : (st1 t).IsWhole := hstage0_1 0

/-- The region's state before its one point (the results at anything) and after it (as the kernel makes them). -/
def Φat (c : Dev nD) (t : ℕ) : sProp 𝕄 :=
  if t = 0 then held c (Xm m c) (V m c main_call0_v2_0) (V m c main_call0_v2_1) (V m c main_call0_v2_2)
  else held c (Xm m c) (G0 m c) (G1 m c) (G2 m c)

/-- The proof data: the two staged inputs keep their blocks. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
  Φ t := Φat m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- Each staged block is its whole array. -/
theorem iblk0_eq (c : Dev nD) (t : Fin cfg0.N) : (iblk m c 0 t : Vec F S1024x64 .f32) = Wm m c := by
  funext y
  refine (View.read_apply ..).trans ?_
  refine congrArg (V m c main_arg1 : S1024x64.Idx → Elt F .f32) (funext fun a => ?_)
  fin_cases a <;> exact Fin.ext (by show 0 + 1 * _ = _; omega)
theorem iblk1_eq (c : Dev nD) (t : Fin cfg0.N) : (iblk m c 1 t : Vec F S1x64 .f32) = Bm m c := by
  funext y
  refine (View.read_apply ..).trans ?_
  refine congrArg (V m c main_call0_v1 : S1x64.Idx → Elt F .f32) (funext fun a => ?_)
  fin_cases a <;> exact Fin.ext (by show 0 + 1 * _ = _; omega)

/-- What the body loads of a staged operand holding `x`. -/
theorem ldW_rep (c : Dev nD) (arg1 : Memref sig .tc .vmem S1024x64 .f32) (x : Vec F S1024x64 .f32) : ldW c arg1 (arg1.view.rep x) = x := by
  funext y
  unfold ldW
  rw [View.readAt_apply, View.read_rep]
  refine congrArg x (funext fun a => ?_)
  fin_cases a <;> exact Fin.ext (by show 0 + 1 * _ = _; omega)
theorem ldB_rep (c : Dev nD) (arg2 : Memref sig .tc .vmem S1x64 .f32) (x : Vec F S1x64 .f32) : ldB c arg2 (arg2.view.rep x) = x := by
  funext y
  unfold ldB
  rw [View.readAt_apply, View.read_rep]
  refine congrArg x (funext fun a => ?_)
  fin_cases a <;> exact Fin.ext (by show 0 + 1 * _ = _; omega)

/-- The results of the staged operands are `G0`, `G1`, `G2`. -/
theorem made (c : Dev nD) (t : Fin cfg0.N) :
    Made c (Xm m c) (G0 m c) (G1 m c) (G2 m c) (st0 t) (st1 t) ((st0 t).view.rep (iblk m c 0 t)) ((st1 t).view.rep (iblk m c 1 t)) := by
  have hW : ldW c (st0 t) ((st0 t).view.rep (iblk m c 0 t)) = Wm m c := (ldW_rep c (st0 t) _).trans (iblk0_eq m c t)
  have hB : ldB c (st1 t) ((st1 t).view.rep (iblk m c 1 t)) = Bm m c := (ldB_rep c (st1 t) _).trans (iblk1_eq m c t)
  refine ⟨fun b => ?_, fun b => ?_, fun b => ?_⟩
  · rw [hW, hB]; exact pBlk_stack b _
  · rw [hW, hB]; exact vBlk_stack b _
  · rw [hW, hB]; exact iBlk_stack b _

/-! ## The body obligation -/

/-- The body table's entry is the kernel on the staged operands. -/
theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (st0 t) (hst0 t) (st1 t) (hst1 t) :=
  (congrFun defs_tc _).trans rfl

theorem Φat_first (c : Dev nD) (t : Fin cfg0.N) : Φat m c t.castSucc.val = held c (Xm m c) (V m c main_call0_v2_0) (V m c main_call0_v2_1) (V m c main_call0_v2_2) := by
  have ht : t.castSucc.val = 0 := Nat.lt_one_iff.mp (Nat.lt_of_lt_of_eq t.isLt N_0)
  unfold Φat; rw [if_pos ht]
theorem Φat_last (c : Dev nD) (t : Fin cfg0.N) : Φat m c t.succ.val = held c (Xm m c) (G0 m c) (G1 m c) (G2 m c) := by
  have ht : ¬ t.succ.val = 0 := by rw [Fin.val_succ]; omega
  unfold Φat; rw [if_neg ht]

set_option backward.isDefEq.respectTransparency.types false in
/-- At the one point the body takes the region from its first state to its last. -/
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  rw [show (dats m 0 c).Φ t.castSucc = held c (Xm m c) (V m c main_call0_v2_0) (V m c main_call0_v2_1) (V m c main_call0_v2_2) from Φat_first m c t,
    show (dats m 0 c).Φ t.succ = held c (Xm m c) (G0 m c) (G1 m c) (G2 m c) from Φat_last m c t]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, Hw⟩, ⟨%d1, %g1, %hg1, Hb⟩⟩
  ihave Hw' := (pointsTo_rep_entails (c : Thread nD τ) (st0 t) g0 fullShare) $$ Hw
  ihave Hb' := (pointsTo_rep_entails (c : Thread nD τ) (st1 t) g1 fullShare) $$ Hb
  rw [hg0, hg1]
  sl_rw [prog_eq t]
  iapply (bodyRun c (Xm m c) (V m c main_call0_v2_0) (G0 m c) (V m c main_call0_v2_1) (G1 m c) (V m c main_call0_v2_2) (G2 m c)
    (st0 t) (hst0 t) (st1 t) (hst1 t) _ _ (made m c t))
  isplitl [Hw' Hb' HΦ HW]
  · isplitl [Hw']; · iexact Hw'
    isplitl [Hb']; · iexact Hb'
    isplitl [HW]
    · iexists W; iexact HW
    iexact HΦ
  · iintro ⟨Hw, Hb, ⟨%W', HW⟩, HΦ⟩
    isplitl [HΦ]; · iexact HΦ
    isplitl [HW]
    · iexists W'; isplitr; · ipureintro; exact fun _ _ => Or.inl trivial
      iexact HW
    isplitl [Hw]
    · iexists _; isplitr; · ipureintro; exact View.read_rep _ _
      iexact Hw
    iexists _; isplitr; · ipureintro; exact View.read_rep _ _
    iexact Hb

/-! ## The launch's data -/

/-- The kernel's own transfer cells: two for each ring. -/
def osem : Fin 8 → SemLoc sig := ![.dma (xSem 0).sem, .dma (xSem 1).sem, .dma (pSem 0).sem, .dma (pSem 1).sem,
  .dma (vSem 0).sem, .dma (vSem 1).sem, .dma (iSem 0).sem, .dma (iSem 1).sem]
theorem ownSemFacts : Pipeline.OwnSemFacts spec0 osem := by decide

/-- The arrays the kernel reads and writes by transfers of its own. -/
def readSet : Finset (Ref sig .tc) := {main_call0_v0}
def writtenSet : Finset (Ref sig .tc) := {main_call0_v2_0, main_call0_v2_1, main_call0_v2_2}

/-- What the written arrays hold after the kernel. -/
def Gfin (c : Dev nD) (b : Ref sig .tc) : Buf (Elt F) ((c.tc : Thread nD τ).loc b) :=
  if h : b = main_call0_v2_0 then h ▸ G0 m c
  else if h : b = main_call0_v2_1 then h ▸ G1 m c
  else if h : b = main_call0_v2_2 then h ▸ G2 m c
  else V m c b
theorem Gfin0 (c : Dev nD) : Gfin m c main_call0_v2_0 = G0 m c := by unfold Gfin; rw [dif_pos rfl]
theorem Gfin1 (c : Dev nD) : Gfin m c main_call0_v2_1 = G1 m c := by unfold Gfin; rw [dif_neg (by decide), dif_pos rfl]
theorem Gfin2 (c : Dev nD) : Gfin m c main_call0_v2_2 = G2 m c := by unfold Gfin; rw [dif_neg (by decide), dif_neg (by decide), dif_pos rfl]

omit [FloatOps F] in
/-- The own cells at rest, one by one. -/
theorem ownCells (c : Dev nD) : (Pipeline.ownSems0 (Ix := Unit) (Name := ℕ) (U := UU) (Lvl := ℕ) (Val := Elt F) (τ := τ) osem c : sProp 𝕄)
    = iprop(xCellP c 0 ∗ xCellP c 1 ∗ pCellP c 0 ∗ pCellP c 1 ∗ vCellP c 0 ∗ vCellP c 1 ∗ iCellP c 0 ∗ iCellP c 1) :=
  Pipeline.ownSems0_eq_of_list c osem [0, 1, 2, 3, 4, 5, 6, 7] (by decide) (by decide)

omit [FloatOps F] in
theorem overRead (Φ : Ref sig .tc → sProp 𝕄) : bigSep readSet Φ = Φ main_call0_v0 := bigSep_singleton
omit [FloatOps F] in
theorem overWritten (Φ : Ref sig .tc → sProp 𝕄) : bigSep writtenSet Φ = iprop(Φ main_call0_v2_0 ∗ Φ main_call0_v2_1 ∗ Φ main_call0_v2_2) :=
  bigSep_eq_bigSepL_of_eq [main_call0_v2_0, main_call0_v2_1, main_call0_v2_2] (by decide) (by decide) Φ

/-- What the launch hands over, and takes back, is `held`, at any contents of the written arrays. -/
theorem held_of (c : Dev nD) (G : (c : Dev nD) → (b : Ref sig .tc) → Buf (Elt F) ((c.tc : Thread nD τ).loc b)) :
    Pipeline.ΦDRV osem spec0 readSet writtenSet (V m) G c ⊢ held c (Xm m c) (G c main_call0_v2_0) (G c main_call0_v2_1) (G c main_call0_v2_2) := by
  unfold Pipeline.ΦDRV held xFree pFree vFree iFree
  rw [scopedRest0_eq, ownCells, overRead, overWritten, xArr_eq c, pArr_eq c, vArr_eq c, iArr_eq c]
  iintro ⟨⟨Hx, Hp, Hv, Hi⟩, ⟨Hx0, Hx1, Hp0, Hp1, Hv0, Hv1, Hi0, Hi1⟩, HX, HP, HV, HI⟩
  ihave Hx := (xRing_cut c) $$ Hx
  icases Hx with ⟨Hxa, Hxb⟩
  ihave Hp := (pRing_cut c) $$ Hp
  icases Hp with ⟨Hpa, Hpb⟩
  ihave Hv := (vRing_cut c) $$ Hv
  icases Hv with ⟨Hva, Hvb⟩
  ihave Hi := (iRing_cut c) $$ Hi
  icases Hi with ⟨Hia, Hib⟩
  iframe HX HP HV HI Hxa Hxb Hpa Hpb Hva Hvb Hia Hib Hx0 Hx1 Hp0 Hp1 Hv0 Hv1 Hi0 Hi1
theorem of_held (c : Dev nD) (G : (c : Dev nD) → (b : Ref sig .tc) → Buf (Elt F) ((c.tc : Thread nD τ).loc b)) :
    held c (Xm m c) (G c main_call0_v2_0) (G c main_call0_v2_1) (G c main_call0_v2_2) ⊢ Pipeline.ΦDRV osem spec0 readSet writtenSet (V m) G c := by
  unfold Pipeline.ΦDRV held xFree pFree vFree iFree
  rw [scopedRest0_eq, ownCells, overRead, overWritten, xArr_eq c, pArr_eq c, vArr_eq c, iArr_eq c]
  iintro ⟨⟨HX, ⟨Hxa, Hx0⟩, ⟨Hxb, Hx1⟩⟩, ⟨HP, ⟨Hpa, Hp0⟩, ⟨Hpb, Hp1⟩⟩, ⟨HV, ⟨Hva, Hv0⟩, ⟨Hvb, Hv1⟩⟩, ⟨HI, ⟨Hia, Hi0⟩, ⟨Hib, Hi1⟩⟩⟩
  ihave Hx := (xRing_join c) $$ [Hxa Hxb]
  · iframe Hxa Hxb
  ihave Hp := (pRing_join c) $$ [Hpa Hpb]
  · iframe Hpa Hpb
  ihave Hv := (vRing_join c) $$ [Hva Hvb]
  · iframe Hva Hvb
  ihave Hi := (iRing_join c) $$ [Hia Hib]
  · iframe Hia Hib
  iframe HX HP HV HI Hx Hp Hv Hi Hx0 Hx1 Hp0 Hp1 Hv0 Hv1 Hi0 Hi1

/-! ## The run -/

/-- Nothing after the region writes an argument, and each result is its array reshaped. -/
theorem after0 (c : Dev nD) (A : Valuation τ sig (Elt F)) : StableHlo.after ([hostOps1].flatten : List (HloOp τ sig (Elt F))) A (Proc.devRef .tc main_v0_0)
    = shapeCast S4x2048x64 (A (Proc.devRef .tc main_call0_v2_0) : Vec F S8192x64 .f32) shapeCasts_S8192x64_S4x2048x64 := by
  simp only [List.flatten_cons, List.flatten_nil, List.append_nil]
  after_results
  rfl
theorem after1 (c : Dev nD) (A : Valuation τ sig (Elt F)) : StableHlo.after ([hostOps1].flatten : List (HloOp τ sig (Elt F))) A (Proc.devRef .tc main_v0_1)
    = shapeCast S4x2048x2 (A (Proc.devRef .tc main_call0_v2_1) : Vec F S8192x2 .f32) shapeCasts_S8192x2_S4x2048x2 := by
  simp only [List.flatten_cons, List.flatten_nil, List.append_nil]
  after_results
  rfl
theorem after2 (c : Dev nD) (A : Valuation τ sig (Elt F)) : StableHlo.after ([hostOps1].flatten : List (HloOp τ sig (Elt F))) A (Proc.devRef .tc main_v0_2)
    = shapeCast S4x2048x2 (A (Proc.devRef .tc main_call0_v2_2) : Vec F S8192x2 .i32) shapeCasts_S8192x2_S4x2048x2 := by
  simp only [List.flatten_cons, List.flatten_nil, List.append_nil]
  after_results
  rfl

/-- The token rows and the bias row are their arguments, reshaped. -/
theorem Xm_eq (c : Dev nD) : Xm m c = shapeCast S8192x1024 (m ((c : Thread nD τ).loc main_arg0) : Vec F S4x2048x1024 .f32) shapeCasts_S4x2048x1024_S8192x1024 := by
  show StableHlo.after ([hostOps0].flatten : List (HloOp τ sig (Elt F))) (fun b => m (c, b)) (Proc.devRef .tc main_call0_v0) = _
  simp only [List.flatten_cons, List.flatten_nil, List.append_nil]
  after_results
  rfl
theorem Bm_eq (c : Dev nD) : Bm m c = shapeCast S1x64 (m ((c : Thread nD τ).loc main_arg2) : Vec F S64 .f32) shapeCasts_S64_S1x64 := by
  show StableHlo.after ([hostOps0].flatten : List (HloOp τ sig (Elt F))) (fun b => m (c, b)) (Proc.devRef .tc main_call0_v1) = _
  simp only [List.flatten_cons, List.flatten_nil, List.append_nil]
  after_results
  rfl

/-- What the program ends with: the three results the kernel's, the arguments as they were. -/
def Ends (r : PUnit × MemSt nD τ sig (Elt F)) (c : Dev nD) : Prop :=
  r.2.mem ((c : Thread nD τ).loc main_v0_0) = shapeCast S4x2048x64 (G0 m c : Vec F S8192x64 .f32) shapeCasts_S8192x64_S4x2048x64
  ∧ r.2.mem ((c : Thread nD τ).loc main_v0_1) = shapeCast S4x2048x2 (G1 m c : Vec F S8192x2 .f32) shapeCasts_S8192x2_S4x2048x2
  ∧ r.2.mem ((c : Thread nD τ).loc main_v0_2) = shapeCast S4x2048x2 (G2 m c : Vec F S8192x2 .i32) shapeCasts_S8192x2_S4x2048x2
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)

/-- The arrays after the region: the written ones as the kernel makes them, every other buffer as before. -/
abbrev Aend (c : Dev nD) : Valuation τ sig (Elt F) :=
  Pipeline.withArrays spec0 c (Pipeline.withR (V0 m c) writtenSet c (Gfin m c)) fun w => (dats m 0 c).arrAt w cfg0.N
theorem Aend_in (c : Dev nD) (b : Ref sig .tc) (hb : ∀ w, Pipeline.arrRef spec0 w ≠ b) (hw : b ∈ writtenSet) :
    Aend m c (Proc.devRef .tc b) = Gfin m c b :=
  (Pipeline.withArrays_of_ne spec0 c _ _ b hb).trans (Pipeline.withR_of_mem _ _ _ _ b hw)
theorem Aend_out (c : Dev nD) (b : Ref sig .tc) (hb : ∀ w, Pipeline.arrRef spec0 w ≠ b) (hw : b ∉ writtenSet) :
    Aend m c (Proc.devRef .tc b) = V m c b :=
  (Pipeline.withArrays_of_ne spec0 c _ _ b hb).trans (Pipeline.withR_of_not_mem _ _ _ _ b hw)
/-- The host lines after the region keep the arguments. -/
theorem after_keeps (A : Valuation τ sig (Elt F)) (b : Ref sig .tc) (h0 : b ≠ main_v0_0) (h1 : b ≠ main_v0_1) (h2 : b ≠ main_v0_2) :
    StableHlo.after ([hostOps1].flatten : List (HloOp τ sig (Elt F))) A (Proc.devRef .tc b) = A (Proc.devRef .tc b) :=
  StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact ⟨StableHlo.devRef_ne_of_ne h0, StableHlo.devRef_ne_of_ne h1, StableHlo.devRef_ne_of_ne h2⟩))

set_option maxHeartbeats 800000 in
theorem enters : Pipeline.HMainK (Ix := Unit) (Name := ℕ) (U := UU) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- THE RUN, for any float values, from any memory with the counters at zero: every weakly fair execution of the program ends,
    with the three results as the kernel makes them, the arguments as they were, and every counter at zero. -/
theorem run_main : θ_run defs (onTc (τ := τ) (main (F := F))) ⟨m, fun _ => 0, ρ⟩ (fun r => (∀ c, Ends m r c) ∧ r.2.sem = fun _ => 0) :=
  Pipeline.θ_run_frame_dmaR_aroundV cfgs (dats m) 0 launch0 osem defs₀ 𝒱₀ ownSemFacts readSet writtenSet (by decide) (by decide) m ρ main
    (fun c => (body_obligation m c).loose) (fun c => (dats m 0 c).share_full fun _ => rfl) (fun _ _ => rfl)
    (V0 m) [hostOps1] sfx_sub sfx_fresh sfx_keeps (Gfin m) (enters m) (fun _ _ => rfl)
    (fun c => held_of m c (V m))
    (fun c => by
      rw [show (dats m 0 c).Φ (Fin.last cfg0.N) = held c (Xm m c) (G0 m c) (G1 m c) (G2 m c) from Φat_last m c t0_0,
        ← Gfin0 m c, ← Gfin1 m c, ← Gfin2 m c]
      exact of_held m c (Gfin m))
    (Q' := fun r => (∀ c, Ends m r c) ∧ r.2.sem = fun _ => 0) (hQ' := fun r h => ⟨fun c => by
      have hr := fun b hs ha => (h.1 c).2 b (Pipeline.mem_restRefs_of b hs ha)
      refine ⟨?_, ?_, ?_, ?_, ?_, ?_⟩
      · exact (hr main_v0_0 (by decide) (by decide)).trans ((after0 c (Aend m c)).trans
          (congrArg (fun x : Vec F S8192x64 .f32 => shapeCast S4x2048x64 x shapeCasts_S8192x64_S4x2048x64)
            ((Aend_in m c main_call0_v2_0 (by decide) (by decide)).trans (Gfin0 m c))))
      · exact (hr main_v0_1 (by decide) (by decide)).trans ((after1 c (Aend m c)).trans
          (congrArg (fun x : Vec F S8192x2 .f32 => shapeCast S4x2048x2 x shapeCasts_S8192x2_S4x2048x2)
            ((Aend_in m c main_call0_v2_1 (by decide) (by decide)).trans (Gfin1 m c))))
      · exact (hr main_v0_2 (by decide) (by decide)).trans ((after2 c (Aend m c)).trans
          (congrArg (fun x : Vec F S8192x2 .i32 => shapeCast S4x2048x2 x shapeCasts_S8192x2_S4x2048x2)
            ((Aend_in m c main_call0_v2_2 (by decide) (by decide)).trans (Gfin2 m c))))
      · exact (hr main_arg0 (by decide) (by decide)).trans ((after_keeps (Aend m c) main_arg0 (by decide) (by decide) (by decide)).trans
          ((Aend_out m c main_arg0 (by decide) (by decide)).trans (V_main_arg0 m c)))
      · exact ((h.1 c).1 0).trans (((dats m 0 c).arrAt_in 0 rfl _).trans (V_main_arg1 m c))
      · exact (hr main_arg2 (by decide) (by decide)).trans ((after_keeps (Aend m c) main_arg2 (by decide) (by decide) (by decide)).trans
          ((Aend_out m c main_arg2 (by decide) (by decide)).trans (V_main_arg2 m c))), h.2⟩)

end Cert.Proof.Route

end
-- ==== Proof.RefRun.lean ====
/-
  The reference's run: its three results as named stages of its arguments — the logits, the softmax, the first two of the
  softmax's stable descending sort — with its arguments unchanged.
-/
module

public import proofs.«01_k».proof.Defs
public import proofs.«01_k».proof.Proof.Gen.ReferenceIdeal
public import proofs.«01_k».proof.Proof.Gen.Pre_clear_choice
public import Idealize.ShloMosaic.Lib.Claim

@[expose] public section

noncomputable section

set_option maxRecDepth 16384

namespace Cert.Proof.Ref

open Cert.ReferenceIdeal Cert.ReferenceIdeal.Gen
open Idealize.ShloMosaic Idealize.ShloMosaic.TcCoe Idealize.ShloMosaic.Tactic
open Idealize.SL.Sem

/-- The logits of every token: its row against every expert's column, and the expert's bias. -/
def logits (x : FVec Ideal S4x2048x1024 .f32) (w : FVec Ideal S1024x64 .f32) (b : FVec Ideal S64 .f32) : FVec Ideal S4x2048x64 .f32 :=
  addf (Host.dotGeneral dot_S4x2048x1024_S1024x64_S4x2048x64_2_0_01_1_n_n none x w)
    (broadcastInDim S4x2048x64 ![0, 1, 2] bcast_S1x1x64_S4x2048x64_0_1_2 (broadcastInDim S1x1x64 ![2] bcast_S64_S1x1x64_2 b))

/-- Each token's greatest logit. -/
def top (g : FVec Ideal S4x2048x64 .f32) : FVec Ideal S4x2048 .f32 :=
  Host.reduce FloatOps.maximumf g (constant S_ .f32 0xFF800000#32) reducesTo_S4x2048x64_S4x2048_d2 h_S_

/-- A number per token, repeated over the experts. -/
def spread (v : FVec Ideal S4x2048 .f32) : FVec Ideal S4x2048x64 .f32 :=
  broadcastInDim S4x2048x64 ![0, 1, 2] bcast_S4x2048x1_S4x2048x64_0_1_2 (broadcastInDim S4x2048x1 ![0, 1] bcast_S4x2048_S4x2048x1_0_1 v)

/-- The exponentials of the logits less their greatest. -/
def exps (g : FVec Ideal S4x2048x64 .f32) : FVec Ideal S4x2048x64 .f32 :=
  Host.exp (subf g (spread (maximumf (broadcastInDim S4x2048 ![] bcast_S_S4x2048 (constant S_ .f32 0xFF800000#32)) (top g))))

/-- The softmax over the experts. -/
def probs (g : FVec Ideal S4x2048x64 .f32) : FVec Ideal S4x2048x64 .f32 :=
  Host.divf (exps g) (spread (Host.reduceAdd (exps g) (constant S_ .f32 0x00000000#32) reducesTo_S4x2048x64_S4x2048_d2 h_S_))

/-- The two greatest of each token's softmax, and where they stand. -/
def best (p : FVec Ideal S4x2048x64 .f32) : FVec Ideal S4x2048x2 .f32 × IVec S4x2048x2 32 :=
  Host.topK S4x2048x2 2 (FloatOps.cmpfTotal .gt) p sliceFits_S4x2048x64_S4x2048x2

variable (m : (ℓ : Loc nD τ sig) → Buf (Elt Ideal) ℓ) (ρ : Dev nD → PrngReg)

/-- The reference ends with its three results as the stages above make them, its arguments as they were. -/
theorem run_reference : θ_run (defs (F := Ideal)) (onTc (τ := τ) (main (F := Ideal))) ⟨m, fun _ => 0, ρ⟩ (fun r => ∀ c : Dev nD,
      r.2.mem ((c.tc : Thread nD τ).loc main_v14) = probs (logits (m ((c.tc : Thread nD τ).loc main_arg0)) (m ((c.tc : Thread nD τ).loc main_arg1)) (m ((c.tc : Thread nD τ).loc main_arg2)))
      ∧ r.2.mem ((c.tc : Thread nD τ).loc main_values) = (best (probs (logits (m ((c.tc : Thread nD τ).loc main_arg0)) (m ((c.tc : Thread nD τ).loc main_arg1)) (m ((c.tc : Thread nD τ).loc main_arg2))))).1
      ∧ r.2.mem ((c.tc : Thread nD τ).loc main_indices) = (best (probs (logits (m ((c.tc : Thread nD τ).loc main_arg0)) (m ((c.tc : Thread nD τ).loc main_arg1)) (m ((c.tc : Thread nD τ).loc main_arg2))))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run <;> first | rfl | trivial

end Cert.Proof.Ref
-- ==== Proof.Frames.lean ====
/-
  The frames: the kernel as printed and its idealized form by the one run of Launch.lean, the reference by its line of host
  operations.
-/
module

public import proofs.«01_k».proof.Defs
public import proofs.«01_k».proof.Proof.Launch
public import proofs.«01_k».proof.Proof.RefRun
public import proofs.«01_k».proof.Proof.Gen.Kernel

@[expose] public section

noncomputable section

set_option maxRecDepth 16384

namespace Cert.Proof.Route

open Idealize.ShloMosaic Idealize.SL.Sem

/-- The two programs' one kernel body is the same text. -/
theorem same_defs₀ : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun x => rfl

/-- So are their tables of bodies. -/
theorem same_defs : Cert.Kernel.defs (F := Bits) = Cert.KernelIdeal.defs (F := Bits) := by
  unfold Cert.Kernel.defs
  rw [same_defs₀]
  rfl

/-- The kernel as printed, at machine words: it runs, its arguments are unchanged, the machine is quiescent. -/
theorem frame_kernel : Cert.quiescent_Kernel := fun m ρ _ => by
  rw [same_defs]
  exact (θ_run (Cert.KernelIdeal.defs (F := Bits)) _ _).mono (fun _ h => ⟨fun c => (h.1 c).2.2.2, h.2⟩) (run_main (F := Bits) m ρ)

/-- The same under the precondition: it holds of every input, so of those. -/
theorem frame_kernel_pre : Cert.quiescent_Kernel_pre_clear_choice := fun m ρ _ => frame_kernel m ρ trivial

/-- The kernel at extended reals: it runs, its arguments are unchanged, the machine is quiescent. -/
theorem frame_ideal : Cert.quiescent_KernelIdeal := fun m ρ _ =>
  (θ_run Cert.KernelIdeal.defs _ _).mono (fun _ h => ⟨fun c => (h.1 c).2.2.2, h.2⟩) (run_main (F := Ideal) m ρ)

/-- The reference runs, its arguments are unchanged, the machine is quiescent. -/
theorem frame_reference : Cert.quiescent_ReferenceIdeal := fun m ρ _ =>
  (θ_run (Cert.ReferenceIdeal.defs (F := Ideal)) _ _).mono
    (fun r h => ⟨fun c => (h c).2.2.2, Idealize.ShloMosaic.sem_eq_zero_of_no_sems (by decide) r.2⟩) (Ref.run_reference m ρ)

/-- The same under the precondition. -/
theorem frame_reference_pre : Cert.quiescent_ReferenceIdeal_pre_clear_choice := fun m ρ _ => frame_reference m ρ trivial

end Cert.Proof.Route
-- ==== Proof.Row.lean ====
/-
  One token's row of logits, as sixty-four extended reals with a clear first and a clear second: its maximum, its exponentials and
  their sum, the order of its softmax, and what a stable descending sort of the softmax puts first and second.
-/
module

public import Idealize.ShloMosaic.PureOps.Ideal
public import Idealize.ShloMosaic.PureOps.Ideal.Laws
public import Idealize.ShloMosaic.Lib.SortFacts

@[expose] public section

noncomputable section

namespace Cert.Proof.Row

open Idealize.ShloMosaic

/-- The row has a clear choice: `i` holds its greatest entry, `k` the greatest of the others, each alone; the greatest is not +∞
    and the second is not −∞. -/
structure Clear (g : Fin 64 → EReal) (i k : Fin 64) : Prop where
  ne : k ≠ i
  fin : g i < ⊤
  low : ⊥ < g k
  first : ∀ j, j ≠ i → g j < g i
  second : ∀ j, j ≠ i → j ≠ k → g j < g k

/-- The greatest entry. -/
def rowMax (g : Fin 64 → EReal) : EReal := Finset.univ.fold max ⊥ g

/-- An entry that none exceeds is the greatest. -/
theorem rowMax_eq {g : Fin 64 → EReal} {i : Fin 64} (h : ∀ j, g j ≤ g i) : rowMax g = g i :=
  le_antisymm (Finset.fold_max_le _ |>.2 ⟨bot_le, fun j _ => h j⟩) (Finset.le_fold_max _ |>.2 (Or.inr ⟨i, Finset.mem_univ _, le_rfl⟩))

/-- The exponential of an entry less the greatest. -/
def rowExp (g : Fin 64 → EReal) (j : Fin 64) : EReal := Ideal.exp (g j - rowMax g)

/-- The sum of the exponentials. -/
def rowSum (g : Fin 64 → EReal) : EReal := ∑ j, rowExp g j

/-- The row's softmax. -/
def rowProb (g : Fin 64 → EReal) (j : Fin 64) : EReal := Ideal.div (rowExp g j) (rowSum g)

/-- The row without the entry at `i`. -/
def rowRest (g : Fin 64 → EReal) (i j : Fin 64) : EReal := if j = i then ⊥ else g j

section Clear

variable {g : Fin 64 → EReal} {i k : Fin 64} (hc : Clear g i k)
include hc

theorem Clear.le_first (j : Fin 64) : g j ≤ g i := by
  rcases eq_or_ne j i with rfl | h
  · exact le_rfl
  · exact (hc.first j h).le

theorem Clear.rowMax : rowMax g = g i := rowMax_eq hc.le_first

/-- Without the first entry, every entry but the second's is below the second. -/
theorem Clear.rest_lt (j : Fin 64) (h : j ≠ k) : rowRest g i j < rowRest g i k := by
  unfold rowRest
  rw [if_neg hc.ne]
  split
  · exact hc.low
  · exact hc.second j ‹_› h

theorem Clear.rowMax_rest : Row.rowMax (rowRest g i) = g k := by
  rw [rowMax_eq (i := k) fun j => ?_]
  · exact if_neg hc.ne
  · rcases eq_or_ne j k with rfl | h
    · exact le_rfl
    · exact (hc.rest_lt j h).le

/-- The greatest entry is a real number. -/
theorem Clear.first_real : ∃ M : ℝ, g i = (M : EReal) := by
  have h1 : g i ≠ ⊤ := hc.fin.ne
  have h2 : g i ≠ ⊥ := (hc.low.trans (hc.first k hc.ne)).ne'
  exact ⟨(g i).toReal, (EReal.coe_toReal h1 h2).symm⟩

/-- The exponentials are real numbers, none negative, the first's one, in the order of the entries. -/
theorem Clear.exps_real : ∃ e : Fin 64 → ℝ, (∀ j, rowExp g j = (e j : EReal)) ∧ (∀ j, 0 ≤ e j) ∧ e i = 1 ∧ ∀ j l, g j < g l → e j < e l := by
  obtain ⟨M, hM⟩ := hc.first_real
  have hne : ∀ j, g j ≠ ⊤ := fun j => (lt_of_le_of_lt (hc.le_first j) hc.fin).ne
  refine ⟨fun j => if g j = ⊥ then 0 else Real.exp ((g j).toReal - M), fun j => ?_, fun j => ?_, ?_, fun j l hjl => ?_⟩
  · unfold rowExp
    rw [hc.rowMax, hM]
    by_cases h : g j = ⊥
    · simp only [h, if_true]
      rw [show (⊥ : EReal) - (M : EReal) = ⊥ from rfl]
      rfl
    · simp only [if_neg h]
      rw [show g j = (((g j).toReal : ℝ) : EReal) from (EReal.coe_toReal (hne j) h).symm, ← EReal.coe_sub]
      rfl
  · dsimp only
    split
    · exact le_rfl
    · exact (Real.exp_pos _).le
  · dsimp only
    rw [if_neg (by rw [hM]; exact EReal.coe_ne_bot M), hM, EReal.toReal_coe, sub_self, Real.exp_zero]
  · dsimp only
    have hl : g l ≠ ⊥ := (lt_of_le_of_lt bot_le hjl).ne'
    rw [if_neg hl]
    by_cases h : g j = ⊥
    · rw [if_pos h]
      exact Real.exp_pos _
    · rw [if_neg h]
      refine Real.exp_lt_exp.2 (sub_lt_sub_right ?_ M)
      rw [show g j = (((g j).toReal : ℝ) : EReal) from (EReal.coe_toReal (hne j) h).symm,
        show g l = (((g l).toReal : ℝ) : EReal) from (EReal.coe_toReal (hne l) hl).symm] at hjl
      exact EReal.coe_lt_coe_iff.1 hjl

/-- The exponential at the first entry is one. -/
theorem Clear.exp_first : rowExp g i = 1 := by
  obtain ⟨e, h1, -, h3, -⟩ := hc.exps_real
  rw [h1, h3]; rfl

/-- The sum of the exponentials is a positive real number. -/
theorem Clear.sum_real : ∃ s : ℝ, rowSum g = (s : EReal) ∧ 0 < s := by
  obtain ⟨e, h1, h2, h3, -⟩ := hc.exps_real
  refine ⟨∑ j, e j, ?_, ?_⟩
  · unfold rowSum
    rw [Finset.sum_congr rfl fun j _ => h1 j]
    have : ∀ S : Finset (Fin 64), ∑ j ∈ S, (e j : EReal) = ((∑ j ∈ S, e j : ℝ) : EReal) := fun S => by
      induction S using Finset.cons_induction with
      | empty => rfl
      | cons a S ha ih => rw [Finset.sum_cons, Finset.sum_cons, ih, EReal.coe_add]
    exact this _
  · refine lt_of_lt_of_le (by rw [h3]; exact one_pos) (Finset.single_le_sum (fun j _ => h2 j) (Finset.mem_univ i))

theorem Clear.sum_ne_zero : rowSum g ≠ 0 := by
  obtain ⟨s, h, hs⟩ := hc.sum_real
  rw [h]
  exact fun h0 => hs.ne' (EReal.coe_eq_zero.1 h0)

/-- A quotient by the sum is a product with the sum's reciprocal. -/
theorem Clear.mul_recip (x : EReal) : x * Ideal.div 1 (rowSum g) = Ideal.div x (rowSum g) := by
  unfold Ideal.div
  rw [if_neg hc.sum_ne_zero, if_neg hc.sum_ne_zero, one_mul]

/-- The softmax is ordered as the entries are. -/
theorem Clear.prob_lt {j l : Fin 64} (h : g j < g l) : rowProb g j < rowProb g l := by
  obtain ⟨e, h1, -, -, h4⟩ := hc.exps_real
  obtain ⟨s, hs, hs0⟩ := hc.sum_real
  unfold rowProb Ideal.div
  rw [if_neg hc.sum_ne_zero, if_neg hc.sum_ne_zero, h1, h1, hs, ← EReal.coe_inv, ← EReal.coe_mul, ← EReal.coe_mul]
  exact EReal.coe_lt_coe_iff.2 (mul_lt_mul_of_pos_right (h4 j l h) (inv_pos.2 hs0))

end Clear

/-! ## The two a stable descending sort puts first -/

/-- Of a row whose entry at `i` exceeds every other and whose entry at `k` exceeds every other but that, the sort by "greater
    before" puts `i` first and `k` second. -/
theorem sorted_two (p : Fin 64 → EReal) (i k : Fin 64) (hki : k ≠ i) (h1 : ∀ j, j ≠ i → p j < p i) (h2 : ∀ j, j ≠ i → j ≠ k → p j < p k)
    (B : Fin 64 → Fin 64 → Bool) (hB : ∀ a b, B a b = decide (p b < p a)) :
    sortedFrom B 0 = i ∧ sortedFrom B 1 = k := by
  have hinv : ∀ a b : Fin 64, a < b → ¬ p (sortedFrom B a) < p (sortedFrom B b) := fun a b hab hlt => by
    have h := sortedFrom_noInversion B B
      (fun a b h => by rw [hB] at h ⊢; exact decide_eq_false (lt_asymm (of_decide_eq_true h))) (fun _ _ h => h)
      (fun a b c h h' => by
        rw [hB] at h h' ⊢
        exact decide_eq_false (not_lt.2 ((not_lt.1 (of_decide_eq_false h)).trans (not_lt.1 (of_decide_eq_false h'))))) a b hab
    rw [hB] at h
    exact of_decide_eq_false h hlt
  have hinj := sortedFrom_injective B
  have hzero : sortedFrom B 0 = i := by
    by_contra hne
    obtain ⟨a, ha⟩ := sortedFrom_surjective B i
    have : (0 : Fin 64) < a := by
      rcases Nat.eq_zero_or_pos a.val with h | h
      · exact absurd (by rw [← ha, show a = 0 from Fin.ext h]) hne
      · exact h
    exact hinv 0 a this (by rw [ha]; exact h1 _ hne)
  refine ⟨hzero, ?_⟩
  by_contra hne
  obtain ⟨a, ha⟩ := sortedFrom_surjective B k
  have h0 : a ≠ 0 := fun h => hki (by rw [← ha, h, hzero])
  have hn1 : a ≠ 1 := fun h => hne (by rw [← ha, h])
  have hlt : (1 : Fin 64) < a := by
    rw [Fin.lt_def]
    have : a.val ≠ 0 := fun h => h0 (Fin.ext h)
    have : a.val ≠ 1 := fun h => hn1 (Fin.ext h)
    show 1 < a.val
    omega
  exact hinv 1 a hlt (by rw [ha]; exact h2 _ (fun h => absurd (hinj (h.trans hzero.symm)) (by decide)) hne)

/-- The arg-max over one axis, at a fiber whose entry at `i₀` exceeds every other: that entry's coordinate. -/
theorem argmax_eq {s t : Shape} {a : Fin s.rank} (h : s.Reduces [a] t) (x : s.Idx → EReal) (j : t.Idx) (i₀ : Fin (s.size a))
    (hgt : ∀ l, l ≠ i₀ → x (h.lift j l) < x (h.lift j i₀)) :
    Ideal.reduceIndex .argMax a h x j = BitVec.ofNat 32 i₀.val := by
  unfold Ideal.reduceIndex
  have hset : ((Finset.univ.filter fun i : s.Idx => h.drop i = j).filter fun i =>
      ∀ i' ∈ Finset.univ.filter (fun i : s.Idx => h.drop i = j), ¬ x i < x i') = {h.lift j i₀} := by
    ext i
    simp only [Finset.mem_filter, Finset.mem_univ, true_and, Finset.mem_singleton]
    constructor
    · rintro ⟨hd, hmax⟩
      by_contra hne
      have hi : i = h.lift j (i a) := by rw [← hd, h.lift_drop]
      have hl : i a ≠ i₀ := fun e => hne (by rw [hi, e])
      exact hmax (h.lift j i₀) (h.drop_lift j i₀) (by rw [hi]; exact hgt _ hl)
    · rintro rfl
      refine ⟨h.drop_lift j i₀, fun i' hd hlt => ?_⟩
      have hi : i' = h.lift j (i' a) := by rw [← hd, h.lift_drop]
      rcases eq_or_ne (i' a) i₀ with e | e
      · rw [hi, e] at hlt; exact lt_irrefl _ hlt
      · rw [hi] at hlt; exact lt_asymm hlt (hgt _ e)
  have hcoord : (h.lift j i₀ a).val = i₀.val := by
    rw [Shape.Reduces.lift_val, Shape.Reduces.liftVal]; simp
  simp only [if_true]
  refine congrArg (BitVec.ofNat 32) ?_
  rw [hset, Finset.image_singleton, hcoord]
  rfl

end Cert.Proof.Row
-- ==== Proof.RefRow.lean ====
/-
  The reference's stages at one token: each is the matching number of the token's row of logits (Row.lean).
-/
module

public import proofs.«01_k».proof.Proof.RefRun
public import proofs.«01_k».proof.Proof.Row
public import Idealize.ShloMosaic.Lib.IdealHost
public import Idealize.ShloMosaic.Lib.Pipeline.Value

@[expose] public section

noncomputable section

set_option maxRecDepth 16384

namespace Cert.Proof.Ref

open Cert.ReferenceIdeal Cert.ReferenceIdeal.Gen
open Idealize.ShloMosaic
open Cert.Proof.Row

/-- The experts' axis removed from the logits' shape. -/
theorem redE : Shape.Reduces S4x2048x64 [2] S4x2048 := by decide

/-- Expert `e` of token `t`. -/
def cell (t : S4x2048.Idx) (e : Fin 64) : S4x2048x64.Idx := redE.lift t e

theorem drop_cell (t : S4x2048.Idx) (e : Fin 64) : redE.drop (cell t e) = t := redE.drop_lift t e

/-- Every index is some token's expert. -/
theorem exists_cell (j : S4x2048x64.Idx) : ∃ t e, j = cell t e := ⟨redE.drop j, j 2, (redE.lift_drop j).symm⟩

/-- The row of one token. -/
def rowOf (g : FVec Ideal S4x2048x64 .f32) (t : S4x2048.Idx) (e : Fin 64) : EReal := g (cell t e)

/-- The word of −∞ is the least extended real. -/
theorem negInf : (FloatOps.ofBits .f32 0xFF800000#32 : Ideal .f32) = (⊥ : EReal) := by
  show Ideal.ofBits .f32 0xFF800000#32 = ⊥
  simp [Ideal.ofBits, Ideal.ieee]

/-- The word of +∞ is the greatest. -/
theorem posInf : (FloatOps.ofBits .f32 0x7F800000#32 : Ideal .f32) = (⊤ : EReal) := by
  show Ideal.ofBits .f32 0x7F800000#32 = ⊤
  simp [Ideal.ofBits, Ideal.ieee]

/-- A number per token, spread over the experts, reads the token's. -/
theorem spread_apply (v : FVec Ideal S4x2048 .f32) (t : S4x2048.Idx) (e : Fin 64) : spread v (cell t e) = v t := by
  have h : spread v (cell t e) = v (redE.drop (cell t e)) := by
    unfold spread broadcastInDim
    refine congrArg v (funext fun a => Fin.ext ?_)
    fin_cases a <;> rfl
  rw [h, drop_cell]

/-- The reduction by maximum is the row's maximum. -/
theorem top_apply (g : FVec Ideal S4x2048x64 .f32) (t : S4x2048.Idx) : top g t = rowMax (rowOf g t) := by
  unfold top
  have : Std.Commutative (FloatOps.maximumf (F := Ideal) (φ := .f32)) := ⟨fun a b => max_comm (a : EReal) b⟩
  have : Std.Associative (FloatOps.maximumf (F := Ideal) (φ := .f32)) := ⟨fun a b c => max_assoc (a : EReal) b c⟩
  rw [Host.reduce_eq_fold_single FloatOps.maximumf g _ _ redE]
  show Finset.fold max (FloatOps.ofBits .f32 0xFF800000#32 : Ideal .f32) _ _ = _
  rw [negInf]
  rfl

/-- The exponentials are the row's. -/
theorem exps_apply (g : FVec Ideal S4x2048x64 .f32) (t : S4x2048.Idx) (e : Fin 64) : exps g (cell t e) = rowExp (rowOf g t) e := by
  have h : exps g (cell t e) = Ideal.exp (g (cell t e)
      - spread (maximumf (broadcastInDim S4x2048 ![] bcast_S_S4x2048 (constant S_ .f32 0xFF800000#32)) (top g)) (cell t e)) := rfl
  rw [h, spread_apply]
  show Ideal.exp (g (cell t e) - max (FloatOps.ofBits .f32 0xFF800000#32 : Ideal .f32) (top g t)) = _
  rw [negInf, max_eq_right bot_le, top_apply]
  rfl

/-- The softmax is the row's. -/
theorem probs_apply (g : FVec Ideal S4x2048x64 .f32) (t : S4x2048.Idx) (e : Fin 64) : probs g (cell t e) = rowProb (rowOf g t) e := by
  have h : probs g (cell t e)
      = Ideal.div (exps g (cell t e)) (Host.reduceAdd (exps g) (constant S_ .f32 0x00000000#32) reducesTo_S4x2048x64_S4x2048_d2 h_S_ t) := by
    rw [← spread_apply (Host.reduceAdd (exps g) (constant S_ .f32 0x00000000#32) reducesTo_S4x2048x64_S4x2048_d2 h_S_) t e]
    rfl
  have hs : Host.reduceAdd (exps g) (constant S_ .f32 0x00000000#32) reducesTo_S4x2048x64_S4x2048_d2 h_S_ t = rowSum (rowOf g t) := by
    refine (Ideal.hostReduceAdd_single _ redE (exps g) _ t).trans ?_
    show (Ideal.ofBits .f32 0x00000000#32 : EReal) + _ = _
    rw [Ideal.ofBits_zero_f32, zero_add]
    exact Finset.sum_congr rfl fun e _ => exps_apply g t e
  rw [h, hs, exps_apply]
  rfl

/-- A row of the softmax is the softmax of the row. -/
theorem rowOf_probs (g : FVec Ideal S4x2048x64 .f32) (t : S4x2048.Idx) : rowOf (probs g) t = rowProb (rowOf g t) :=
  funext fun e => probs_apply g t e

/-- Where the first entry of the sort along the experts is read from, at a result's index: the token's own row. -/
theorem best_read (p : FVec Ideal S4x2048x64 .f32) (t : S4x2048.Idx) (i k : Fin 64) (hki : k ≠ i) (h1 : ∀ j, j ≠ i → rowOf p t j < rowOf p t i)
    (h2 : ∀ j, j ≠ i → j ≠ k → rowOf p t j < rowOf p t k) (j : S4x2048x2.Idx) (h0 : (j 0).val = (t 0).val) (h1' : (j 1).val = (t 1).val) :
    (best p).1 j = rowOf p t (if (j 2).val = 0 then i else k)
      ∧ (best p).2 j = BitVec.ofNat 32 (if (j 2).val = 0 then i else k).val := by
  let J : S4x2048x64.Idx := fun a => ⟨0 + (j (Fin.cast rfl a)).val, by
    have := sliceFits_S4x2048x64_S4x2048x2.2 a; have := (j (Fin.cast rfl a)).isLt; omega⟩
  have hal : ∀ e : Fin 64, J.along (2 : Fin 3) e = cell t e := fun e => by
    funext a
    refine Fin.ext ?_
    fin_cases a
    · show 0 + (j 0).val = (t 0).val; omega
    · show 0 + (j 1).val = (t 1).val; omega
    · rfl
  let B : Fin 64 → Fin 64 → Bool := fun a b =>
    FloatOps.cmpfTotal (F := Ideal) (φ := .f32) .gt (p (J.along (2 : Fin 3) a)) (p (J.along (2 : Fin 3) b)) == 1#1
  have hs := sorted_two (rowOf p t) i k hki h1 h2 B (fun a b => by
    show (FloatOps.cmpfTotal (F := Ideal) (φ := .f32) .gt (p (J.along (2 : Fin 3) a)) (p (J.along (2 : Fin 3) b)) == 1#1) = _
    rw [hal, hal]
    show (BitVec.ofBool (decide (rowOf p t b < rowOf p t a)) == 1#1) = _
    cases decide (rowOf p t b < rowOf p t a) <;> rfl)
  have hJ : sortedFrom B (J 2) = if (j 2).val = 0 then i else k := by
    have hj2 : (j 2).val < 2 := (j 2).isLt
    split
    · rw [show J 2 = (0 : Fin 64) from Fin.ext (by show 0 + (j 2).val = 0; omega)]; exact hs.1
    · rw [show J 2 = (1 : Fin 64) from Fin.ext (by show 0 + (j 2).val = 1; omega)]; exact hs.2
  have hr : ∀ q : Fin 64, (J.along (2 : Fin 3) q (2 : Fin 3)).val = q.val := fun q => rfl
  rw [← hJ]
  constructor
  · show p (J.along (2 : Fin 3) (sortedFrom B (J 2))) = _
    exact congrArg p (hal _)
  · show (if h : 2 < 3 then iotaInDim S4x2048x64 32 ⟨2, h⟩ (J.along (2 : Fin 3) (sortedFrom B (J 2))) else 0#32) = _
    rw [dif_pos (by decide)]
    exact congrArg (BitVec.ofNat 32) (hr (sortedFrom B (J 2)))

/-- The two best of a token whose row has a clear choice: the first, then the second, of the row's softmax, and their experts. -/
theorem best_apply (g : FVec Ideal S4x2048x64 .f32) (t : S4x2048.Idx) (i k : Fin 64) (hc : Clear (rowOf g t) i k) (j : S4x2048x2.Idx)
    (h0 : (j 0).val = (t 0).val) (h1 : (j 1).val = (t 1).val) :
    (best (probs g)).1 j = rowProb (rowOf g t) (if (j 2).val = 0 then i else k)
      ∧ (best (probs g)).2 j = BitVec.ofNat 32 (if (j 2).val = 0 then i else k).val := by
  have h := best_read (probs g) t i k hc.ne (by rw [rowOf_probs]; exact fun l hl => hc.prob_lt (hc.first l hl))
    (by rw [rowOf_probs]; exact fun l hl hl' => hc.prob_lt (hc.second l hl hl')) j h0 h1
  rw [rowOf_probs] at h
  exact h

end Cert.Proof.Ref
-- ==== Proof.KerRow.lean ====
/-
  What one block of the kernel computes, at one token: each payload is the matching number of the token's row of logits (Row.lean).
-/
module

public import proofs.«01_k».proof.Proof.Pieces
public import proofs.«01_k».proof.Proof.Row
public import proofs.«01_k».proof.Proof.RefRow
public import Idealize.ShloMosaic.Lib.Pipeline.Value
public import Idealize.ShloMosaic.Lib.IdealHost

@[expose] public section

noncomputable section

set_option maxRecDepth 16384

namespace Cert.Proof.Route

open Cert.KernelIdeal Cert.KernelIdeal.Gen
open Idealize.ShloMosaic
open Cert.Proof.Row

/-- The experts' axis removed from a block of logits. -/
theorem redK : Shape.Reduces S2048x64 [1] S2048 := by decide

/-- Expert `e` of token `r` of a block. -/
def cellK (r : S2048.Idx) (e : Fin 64) : S2048x64.Idx := redK.lift r e

/-- Token `r`'s place in a column. -/
def colAt (r : S2048.Idx) : S2048x1.Idx := fun a => match a with
  | ⟨0, _⟩ => r 0
  | ⟨1, _⟩ => (0 : Fin 1)

/-- A vector made a column, read at a token. -/
theorem column_apply {α : Type} (v : S2048.Idx → α) (h : S2048.ShapeCasts S2048x1) (r : S2048.Idx) : shapeCast S2048x1 v h (colAt r) = v r :=
  shapeCast_apply v h (colAt r) r (by
    rw [Shape.rowMajor_val_two, Shape.rowMajor_val_one]
    show (r 0).val = (r 0).val * 1 + 0
    omega)

/-- A column spread over the experts, read at a cell. -/
theorem spread_column {α : Type} (v : S2048x1.Idx → α) (h : S2048x1.Broadcasts S2048x64) (r : S2048.Idx) (e : Fin 64) :
    broadcastTo S2048x64 v h (cellK r e) = v (colAt r) :=
  broadcastTo_apply v h (cellK r e) (colAt r) (fun a => by fin_cases a <;> rfl)

variable (x : Vec Ideal S1x2048x1024 .f32) (w : Vec Ideal S1024x64 .f32) (b : Vec Ideal S1x64 .f32)

/-- The row of logits of one token of a block. -/
def rowK (r : S2048.Idx) (e : Fin 64) : EReal := k0_pay1 x w b (cellK r e)

/-- A block's reduction by maximum, read at a token. -/
theorem blockMax (v : FVec Ideal S2048x64 .f32) (h hφ hacc) (r : S2048.Idx) :
    multiReduction .maximumf [1] S2048 v 0xFF800000#32 h hφ hacc r = rowMax fun e => v (cellK r e) := by
  rw [Ideal.multiReduction_maximumf_single]
  show Finset.fold max (FloatOps.ofBits .f32 0xFF800000#32 : Ideal .f32) _ _ = _
  rw [Ref.negInf]
  rfl

/-- A block's reduction by addition, read at a token. -/
theorem blockSum (v : FVec Ideal S2048x64 .f32) (h hφ hacc) (r : S2048.Idx) :
    multiReduction .add [1] S2048 v 0x00000000#32 h hφ hacc r = ∑ e : Fin 64, v (cellK r e) :=
  Ideal.multiReduction_add_single v _ h hφ hacc r

/-- The column of maxima holds the row's maximum. -/
theorem pay2_apply (r : S2048.Idx) : k0_pay2 x w b (colAt r) = rowMax (rowK x w b r) := by
  unfold k0_pay2
  rw [column_apply]
  exact blockMax (k0_pay1 x w b) _ _ _ r

/-- The block of exponentials holds the row's. -/
theorem pay3_apply (r : S2048.Idx) (e : Fin 64) : k0_pay3 x w b (cellK r e) = rowExp (rowK x w b r) e := by
  show Ideal.exp (k0_pay1 x w b (cellK r e) - broadcastTo S2048x64 (k0_pay2 x w b) broadcasts_S2048x1_S2048x64 (cellK r e)) = _
  rw [spread_column, pay2_apply]
  rfl

/-- The column of reciprocals holds one over the row's sum. -/
theorem pay4_apply (r : S2048.Idx) : k0_pay4 x w b (colAt r) = Ideal.div 1 (rowSum (rowK x w b r)) := by
  have hs := blockSum (k0_pay3 x w b) reduces_S2048x64_S2048 (.inl rfl) rfl r
  have he : (∑ e : Fin 64, k0_pay3 x w b (cellK r e)) = rowSum (rowK x w b r) := Finset.sum_congr rfl fun e _ => pay3_apply x w b r e
  have hd := (column_apply _ shapeCasts_S2048_S2048x1 r).trans (hs.trans he)
  exact congrArg₂ Ideal.div Ideal.ofBits_one_f32 hd

/-- One entry of a column of scaled exponentials. -/
theorem scaled_exp {s : Shape} (u p q : FVec Ideal s .f32) (j : s.Idx) {a c d : EReal} (hu : u j = a) (hp : p j = c) (hq : q j = d) :
    mulf (exp (subf u p)) q j = Ideal.exp (a - c) * d := by
  subst hu hp hq
  rfl

/-- Two columns laid side by side, read at a token: the second coordinate tells which. -/
theorem pair_apply {α : Type} (u v : S2048x1.Idx → α) (h : Shape.Concatenates [S2048x1, S2048x1] S2048x2 1) (y : S2048x2.Idx)
    (r : S2048.Idx) (h0 : (y 0).val = (r 0).val) :
    concatenate S2048x2 1 [⟨S2048x1, u⟩, ⟨S2048x1, v⟩] h y = if (y 1).val = 0 then u (colAt r) else v (colAt r) := by
  by_cases h1 : (y 1).val = 0
  · rw [if_pos h1]
    refine concatenate_pair_apply_left 1 u v h y rfl (colAt r) fun a => ?_
    match a with
    | ⟨0, _⟩ => exact h0.symm
    | ⟨1, _⟩ => exact h1.symm
  · rw [if_neg h1]
    refine concatenate_pair_apply_right 1 u v h y rfl rfl (colAt r) (fun a ha => ?_) ?_
    · match a, ha with
      | ⟨0, _⟩, _ => exact h0.symm
      | ⟨1, _⟩, ha => exact absurd rfl ha
    · have hy : (y 1).val < 2 := (y 1).isLt
      show 0 + 1 = (y 1).val
      omega

section Clear

variable {x w b} {r : S2048.Idx} {i k : Fin 64} (hc : Clear (rowK x w b r) i k)
include hc

/-- The block's softmax at a token is the row's. -/
theorem P0_apply (e : Fin 64) : P0 x w b (cellK r e) = rowProb (rowK x w b r) e := by
  have h : P0 x w b = mulf (k0_pay3 x w b) (broadcastTo S2048x64 (k0_pay4 x w b) broadcasts_S2048x1_S2048x64) :=
    shapeCast_shapeCast _ _ _
  rw [h]
  show k0_pay3 x w b (cellK r e) * broadcastTo S2048x64 (k0_pay4 x w b) broadcasts_S2048x1_S2048x64 (cellK r e) = _
  rw [spread_column, pay3_apply, pay4_apply, hc.mul_recip]
  rfl

/-- The first expert chosen. -/
theorem pay6_apply : k0_pay6 x w b (colAt r) = BitVec.ofNat 32 i.val := by
  have h : Ideal.reduceIndex .argMax 1 reduces_S2048x64_S2048 (k0_pay1 x w b) r = BitVec.ofNat 32 i.val :=
    argmax_eq reduces_S2048x64_S2048 (k0_pay1 x w b) r i hc.first
  exact (column_apply _ shapeCasts_S2048_S2048x1 r).trans h

/-- The logits with the first expert's struck out. -/
theorem pay7_apply (e : Fin 64) : k0_pay7 x w b (cellK r e) = rowRest (rowK x w b r) i e := by
  have hi : iota .tc S2048x64 32 [1] iota_S2048x64_d1_w32 (cellK r e) = BitVec.ofNat 32 e.val := iota_single_apply _ _ _ _ _ _
  have hs := (spread_column (k0_pay6 x w b) broadcasts_S2048x1_S2048x64 r e).trans (pay6_apply hc)
  show Scalar.select (IntOp.cmpi .eq (iota .tc S2048x64 32 [1] iota_S2048x64_d1_w32 (cellK r e))
      (broadcastTo S2048x64 (k0_pay6 x w b) broadcasts_S2048x1_S2048x64 (cellK r e))) (FloatOps.ofBits .f32 0xFF800000#32 : Ideal .f32)
      (rowK x w b r e) = _
  rw [hi, hs, Ref.negInf]
  have hinj : BitVec.ofNat 32 e.val = BitVec.ofNat 32 i.val ↔ e = i := by
    constructor
    · intro h
      have := congrArg BitVec.toNat h
      simp only [BitVec.toNat_ofNat] at this
      apply Fin.ext
      omega
    · rintro rfl; rfl
  by_cases h : e = i
  · subst h; simp [rowRest, Scalar.select, IntOp.cmpi]
  · have hb : (BitVec.ofNat 32 e.val == BitVec.ofNat 32 i.val) = false := beq_eq_false_iff_ne.mpr fun hh => h (hinj.mp hh)
    simp [rowRest, Scalar.select, IntOp.cmpi, h, hb]

/-- The second expert chosen. -/
theorem pay8_apply : k0_pay8 x w b (colAt r) = BitVec.ofNat 32 k.val := by
  have hl : ∀ l : Fin 64, l ≠ k → k0_pay7 x w b (cellK r l) < k0_pay7 x w b (cellK r k) := fun l hl => by
    rw [pay7_apply hc, pay7_apply hc]
    exact hc.rest_lt l hl
  have h : Ideal.reduceIndex .argMax 1 reduces_S2048x64_S2048 (k0_pay7 x w b) r = BitVec.ofNat 32 k.val :=
    argmax_eq reduces_S2048x64_S2048 (k0_pay7 x w b) r k hl
  exact (column_apply _ shapeCasts_S2048_S2048x1 r).trans h

/-- The block's two largest probabilities at a token. -/
theorem P1_apply (y : S2048x2.Idx) (h0 : (y 0).val = (r 0).val) :
    P1 x w b y = rowProb (rowK x w b r) (if (y 1).val = 0 then i else k) := by
  have h : P1 x w b = k0_pay9 x w b := shapeCast_shapeCast _ _ _
  have hm : shapeCast S2048x1 (multiReduction .maximumf [1] S2048 (k0_pay7 x w b) 0xFF800000#32 reduces_S2048x64_S2048 (.inl rfl) rfl)
      shapeCasts_S2048_S2048x1 (colAt r) = rowK x w b r k := by
    rw [column_apply]
    refine (blockMax (k0_pay7 x w b) _ _ _ r).trans (Eq.trans ?_ hc.rowMax_rest)
    exact congrArg rowMax (funext fun e => pay7_apply hc e)
  rw [h]
  refine (pair_apply (k0_pay4 x w b) _ (by decide) y r h0).trans ?_
  by_cases h1 : (y 1).val = 0
  · rw [if_pos h1, if_pos h1, pay4_apply]
    unfold rowProb
    rw [hc.exp_first]
  · rw [if_neg h1, if_neg h1]
    refine Eq.trans ?_ (hc.mul_recip (rowExp (rowK x w b r) k))
    exact scaled_exp _ _ _ _ hm (pay2_apply x w b r) (pay4_apply x w b r)

/-- The block's two chosen experts at a token. -/
theorem P2_apply (y : S2048x2.Idx) (h0 : (y 0).val = (r 0).val) :
    P2 x w b y = BitVec.ofNat 32 (if (y 1).val = 0 then i else k).val := by
  have h : P2 x w b = concatenate S2048x2 1 [⟨S2048x1, k0_pay6 x w b⟩, ⟨S2048x1, k0_pay8 x w b⟩] (show Shape.Concatenates [S2048x1, S2048x1] S2048x2 1 by decide) := shapeCast_shapeCast _ _ _
  rw [h]
  refine (pair_apply (k0_pay6 x w b) (k0_pay8 x w b) _ y r h0).trans ?_
  rw [pay6_apply hc, pay8_apply hc]
  split <;> rfl

end Clear

end Cert.Proof.Route
-- ==== Proof.Link.lean ====
/-
  The kernel's logits are the reference's: one token's row, from the block the token lies in.
-/
module

public import proofs.«01_k».proof.Proof.KerRow
public import proofs.«01_k».proof.Proof.Split

@[expose] public section

noncomputable section

set_option maxRecDepth 16384

namespace Cert.Proof.Route

open Cert.KernelIdeal Cert.KernelIdeal.Gen
open Idealize.ShloMosaic
open Cert.Proof.Row

/-- The block a token lies in. -/
def blockOf (t : Cert.ReferenceIdeal.S4x2048.Idx) : Fin 4 := t 0

/-- A token's place in its block. -/
def inBlock (t : Cert.ReferenceIdeal.S4x2048.Idx) : S2048.Idx := fun a => match a with
  | ⟨0, _⟩ => t 1

/-- Block `b` of the tokens' rows, read at a place: the row `2048 b` further down. -/
theorem xBlk_read (X : Vec Ideal S8192x1024 .f32) (b : Fin 4) (y : S2048x1024.Idx) (z : S8192x1024.Idx)
    (h0 : (z 0).val = 2048 * b.val + (y 0).val) (h1 : (z 1).val = (y 1).val) : (xBlk b).view.read (Elt Ideal) X y = X z := by
  refine (View.read_apply ..).trans ?_
  show X ((xBlk b).view.emb y) = X z
  refine congrArg X (funext fun a => Fin.ext ?_)
  match a with
  | ⟨0, _⟩ => exact (show 2048 * b.val + 1 * (y 0).val = (z 0).val by omega)
  | ⟨1, _⟩ => exact (show 0 + 1 * (y 1).val = (z 1).val by omega)

variable (x : Vec Ideal S4x2048x1024 .f32) (w : Vec Ideal S1024x64 .f32) (β : Vec Ideal S64 .f32)

/-- An entry of a block of tokens is the entry of the array it was cut from. -/
theorem token_entry (t : Cert.ReferenceIdeal.S4x2048.Idx) (y : S2048x1024.Idx) (q : S4x2048x1024.Idx) (hy : (y 0).val = (t 1).val)
    (h0 : (q 0).val = (t 0).val) (h1 : (q 1).val = (t 1).val) (h2 : (q 2).val = (y 1).val) :
    shapeCast S2048x1024 (XT (F := Ideal) (shapeCast S8192x1024 x shapeCasts_S4x2048x1024_S8192x1024) (blockOf t)) shapeCasts_S1x2048x1024_S2048x1024 y = x q := by
  have hs : shapeCast S2048x1024 (XT (F := Ideal) (shapeCast S8192x1024 x shapeCasts_S4x2048x1024_S8192x1024) (blockOf t)) shapeCasts_S1x2048x1024_S2048x1024
      = (xBlk (blockOf t)).view.read (Elt Ideal) (shapeCast S8192x1024 x shapeCasts_S4x2048x1024_S8192x1024) := shapeCast_shapeCast _ _ _
  rw [hs]
  have ht0 : (t 0).val < 4 := (t 0).isLt
  have ht1 : (t 1).val < 2048 := (t 1).isLt
  have hy1 : (y 1).val < 1024 := (y 1).isLt
  refine (xBlk_read _ (blockOf t) y (fun a => match a with
    | ⟨0, _⟩ => (⟨2048 * (t 0).val + (t 1).val, by omega⟩ : Fin 8192)
    | ⟨1, _⟩ => (⟨(y 1).val, hy1⟩ : Fin 1024)) (by rw [hy]; rfl) rfl).trans ?_
  refine shapeCast_apply x _ _ q ?_
  rw [Shape.rowMajor_val_two, Shape.rowMajor_val_three, h0, h1, h2]
  show ((t 0).val * 2048 + (t 1).val) * 1024 + (y 1).val = (2048 * (t 0).val + (t 1).val) * 1024 + (y 1).val
  omega

/-- Expert `e`'s place in the bias. -/
def biasAt (e : Fin 64) : S64.Idx := fun a => match a with
  | ⟨0, _⟩ => e

/-- The bias row, spread over a block's tokens. -/
theorem bias_entry (r : S2048.Idx) (e : Fin 64) :
    broadcastTo S2048x64 (shapeCast S1x64 (shapeCast S1x64 β shapeCasts_S64_S1x64) shapeCasts_S1x64_S1x64) broadcasts_S1x64_S2048x64 (cellK r e)
      = β (biasAt e) := by
  rw [shapeCast_self]
  refine (broadcastTo_apply _ _ (cellK r e) (fun a => match a with
    | ⟨0, _⟩ => (0 : Fin 1)
    | ⟨1, _⟩ => e) fun a => by fin_cases a <;> rfl).trans ?_
  refine shapeCast_apply β _ _ _ ?_
  rw [Shape.rowMajor_val_two, Shape.rowMajor_val_one]
  show e.val = 0 * 64 + e.val
  omega

/-- The reference's bias, spread over every token. -/
theorem bias_ref (t : Cert.ReferenceIdeal.S4x2048.Idx) (e : Fin 64) :
    broadcastInDim Cert.ReferenceIdeal.S4x2048x64 ![0, 1, 2] Cert.ReferenceIdeal.Gen.bcast_S1x1x64_S4x2048x64_0_1_2 (broadcastInDim Cert.ReferenceIdeal.S1x1x64 ![2] Cert.ReferenceIdeal.Gen.bcast_S64_S1x1x64_2 β) (Ref.cell t e)
      = β (biasAt e) := by
  unfold broadcastInDim
  refine congrArg β (funext fun a => Fin.ext ?_)
  fin_cases a
  rfl

/-- A token's row of logits in the kernel is its row in the reference. -/
theorem logits_row (t : Cert.ReferenceIdeal.S4x2048.Idx) :
    rowK (XT (F := Ideal) (shapeCast S8192x1024 x shapeCasts_S4x2048x1024_S8192x1024) (blockOf t)) w (shapeCast S1x64 β shapeCasts_S64_S1x64) (inBlock t)
      = Ref.rowOf (Ref.logits x w β) t := by
  funext e
  refine congrArg₂ (fun a b : EReal => a + b) ?_ ((bias_entry β (inBlock t) e).trans (bias_ref β t e).symm)
  refine (Ideal.matmul_constant_zero_apply _ _ _ _ _).trans (Eq.trans ?_ (Ideal.dotGeneral_apply _ _ _ _ _ _).symm)
  refine Finset.sum_congr rfl fun q _ => ?_
  refine congrArg₂ (fun a b : EReal => a * b) ?_ ?_
  · exact token_entry x t _ _ rfl rfl rfl rfl
  · refine congrArg w (funext fun a => Fin.ext ?_)
    fin_cases a <;> rfl

end Cert.Proof.Route
-- ==== Proof.PreRow.lean ====
/-
  The precondition at one token: where it says one, the token's row of logits has a clear first and a clear second (Row.lean).
-/
module

public import proofs.«01_k».proof.Proof.RefRow
public import proofs.«01_k».proof.Proof.Gen.Pre_clear_choice
public import Idealize.ShloMosaic.Lib.ReduceAll
public import Idealize.ShloMosaic.Lib.StableHlo.Predicate

@[expose] public section

noncomputable section

set_option maxRecDepth 16384

namespace Cert.Proof.Ref

open Cert.Pre_clear_choice Cert.Pre_clear_choice.Gen
open Idealize.ShloMosaic
open Cert.Proof.Row

/-! ## The row -/

/-- A row in which one entry alone is the greatest, and one entry alone equals the greatest of the entries below it, has a clear
    choice, when the greatest is not +∞ and the second is not −∞. -/
theorem clear_of_counts {g : Fin 64 → EReal}
    (h1 : (Finset.univ.filter fun e => g e = rowMax g).card = 1)
    (h2 : (Finset.univ.filter fun e => g e = rowMax fun j => if g j = rowMax g then ⊥ else g j).card = 1)
    (hfin : rowMax g < ⊤) (hlow : ⊥ < rowMax fun j => if g j = rowMax g then ⊥ else g j) : ∃ i k, Clear g i k := by
  obtain ⟨i, hi⟩ := Finset.card_eq_one.1 h1
  obtain ⟨k, hk⟩ := Finset.card_eq_one.1 h2
  have ei : ∀ e, g e = rowMax g ↔ e = i := fun e => by simpa using Finset.ext_iff.1 hi e
  have ek : ∀ e, g e = (rowMax fun j => if g j = rowMax g then ⊥ else g j) ↔ e = k := fun e => by simpa using Finset.ext_iff.1 hk e
  have lei : ∀ e, g e ≤ rowMax g := fun e => Finset.le_fold_max _ |>.2 (Or.inr ⟨e, Finset.mem_univ _, le_rfl⟩)
  have lek : ∀ e, e ≠ i → g e ≤ rowMax fun j => if g j = rowMax g then ⊥ else g j := fun e he =>
    Finset.le_fold_max _ |>.2 (Or.inr ⟨e, Finset.mem_univ _, by rw [if_neg (mt (ei e).1 he)]⟩)
  have gi : g i = rowMax g := (ei i).2 rfl
  have gk := (ek k).2 rfl
  have first : ∀ j, j ≠ i → g j < g i := fun j hj => by
    rw [gi]
    exact lt_of_le_of_ne (lei j) (mt (ei j).1 hj)
  refine ⟨i, k, ⟨?_, ?_, ?_, first, ?_⟩⟩
  · rintro rfl
    have hlt : (rowMax fun j => if g j = rowMax g then ⊥ else g j) < rowMax g := by
      refine Finset.fold_max_lt _ |>.2 ⟨?_, fun j _ => ?_⟩
      · rw [← gi, gk]; exact hlow
      · by_cases hj : j = k
        · rw [if_pos ((ei j).2 hj), ← gi, gk]; exact hlow
        · rw [if_neg (mt (ei j).1 hj), ← gi]; exact first j hj
    rw [← gk, gi] at hlt
    exact lt_irrefl _ hlt
  · rw [gi]; exact hfin
  · rw [gk]; exact hlow
  · intro j hji hjk
    rw [gk]
    exact lt_of_le_of_ne (lek j hji) (mt (ek j).1 hjk)

/-! ## The function's stages -/

/-- Which entries equal a number given per token. -/
def equals (g : FVec Ideal S4x2048x64 .f32) (v : FVec Ideal S4x2048 .f32) : IVec S4x2048x64 1 := cmpf .oeq g (spread v)

/-- The logits with each token's greatest struck out. -/
def struck (g : FVec Ideal S4x2048x64 .f32) : FVec Ideal S4x2048x64 .f32 :=
  select (equals g (top g)) (broadcastInDim S4x2048x64 ![] bcast_S_S4x2048x64 (constant S_ .f32 0xFF800000#32)) g

/-- How many experts of each token a mask marks. -/
def marked (b : IVec S4x2048x64 1) : IVec S4x2048 32 :=
  Host.reduce IntOp.addi (extui 32 b natLt_1_32) (constantI S_ 32 0#32) reducesTo_S4x2048x64_S4x2048_d2 h_S_

/-- Where a count is one. -/
def isOne (v : IVec S4x2048 32) : IVec S4x2048 1 := cmpi .eq v (broadcastInDim S4x2048 ![] bcast_S_S4x2048 (constantI S_ 32 1#32))

/-- A number per token, as a column. -/
def col (v : FVec Ideal S4x2048 .f32) : FVec Ideal S4x2048x1 .f32 := broadcastInDim S4x2048x1 ![0, 1] bcast_S4x2048_S4x2048x1_0_1 v

/-- Whether the greatest is below +∞ and the second above −∞. -/
def within (u v : FVec Ideal S4x2048 .f32) : IVec S4x2048x1 1 :=
  andi (cmpf .olt (col u) (broadcastInDim S4x2048x1 ![] bcast_S_S4x2048x1 (constant S_ .f32 0x7F800000#32)))
    (cmpf .ogt (col v) (broadcastInDim S4x2048x1 ![] bcast_S_S4x2048x1 (constant S_ .f32 0xFF800000#32)))

/-- Whether each token's choice is clear. -/
def clearAt (g : FVec Ideal S4x2048x64 .f32) : IVec S4x2048 1 :=
  andi (andi (isOne (marked (equals g (top g)))) (isOne (marked (equals g (top (struck g))))))
    (Host.reduce IntOp.andi (within (top g) (top (struck g))) (constantI S_ 1 1#1) reducesTo_S4x2048x1_S4x2048_d2 h_S_)

/-- The precondition is that every token's choice is clear. -/
theorem pre_eq (x : FVec Ideal S4x2048x1024 .f32) (w : FVec Ideal S1024x64 .f32) (β : FVec Ideal S64 .f32) :
    Cert.Pre_clear_choice.fn (F := Ideal) x w β
      = Host.reduce IntOp.andi (clearAt (logits x w β)) (constantI S_ 1 1#1) reducesTo_S4x2048_S_d0_1 h_S_ := rfl

/-! ## The stages at a token -/

/-- The bit of a truth value is one when it is true. -/
theorem ofBool_one {b : Bool} : BitVec.ofBool b = 1#1 ↔ b = true := by cases b <;> decide

/-- The mask marks the experts whose logit is the token's number. -/
theorem equals_apply (g : FVec Ideal S4x2048x64 .f32) (v : FVec Ideal S4x2048 .f32) (t : S4x2048.Idx) (e : Fin 64) :
    equals g v (cell t e) = 1#1 ↔ rowOf g t e = v t := by
  have h : equals g v (cell t e) = Ideal.cmp .oeq (rowOf g t e) (spread v (cell t e)) := rfl
  rw [h, spread_apply]
  simp [Ideal.cmp, ofBool_one]

/-- The struck logits at a token. -/
theorem struck_apply (g : FVec Ideal S4x2048x64 .f32) (t : S4x2048.Idx) (e : Fin 64) :
    struck g (cell t e) = if rowOf g t e = rowMax (rowOf g t) then ⊥ else rowOf g t e := by
  have h : struck g (cell t e) = if equals g (top g) (cell t e) = 1#1 then (FloatOps.ofBits .f32 0xFF800000#32 : Ideal .f32) else rowOf g t e := rfl
  rw [h, negInf]
  simp only [equals_apply, top_apply]

/-- The count at a token is the number of experts marked. -/
theorem marked_apply (b : IVec S4x2048x64 1) (t : S4x2048.Idx) :
    (marked b t).toNat = (Finset.univ.filter fun e : Fin 64 => b (cell t e) = 1#1).card := by
  have : Std.Commutative (IntOp.addi (w := 32)) := ⟨fun a b => BitVec.add_comm a b⟩
  have : Std.Associative (IntOp.addi (w := 32)) := ⟨fun a b c => BitVec.add_assoc a b c⟩
  unfold marked
  rw [Host.reduce_eq_fold_single IntOp.addi (extui 32 b natLt_1_32) _ _ redE]
  show ((Finset.univ : Finset (Fin 64)).fold IntOp.addi 0#32 fun e => (b (cell t e)).setWidth 32).toNat = _
  have hs : (∑ e : Fin 64, ((b (cell t e)).setWidth 32).toNat) = (Finset.univ.filter fun e : Fin 64 => b (cell t e) = 1#1).card := by
    rw [Finset.card_filter]
    exact Finset.sum_congr rfl fun e _ => StableHlo.Predicate.toNat_setWidth_bit _
  rw [StableHlo.Predicate.toNat_fold_addi, hs]
  rw [hs]
  exact lt_of_le_of_lt (Finset.card_le_univ _) (by simp)

/-- Where the count is said to be one, it is one. -/
theorem isOne_apply (v : IVec S4x2048 32) (t : S4x2048.Idx) (h : isOne v t = 1#1) : (v t).toNat = 1 := by
  have e : v t = 1#32 := IntOp.cmpi_eq.1 h
  rw [e]
  rfl

/-- A token's place in a column. -/
def colOf (t : S4x2048.Idx) : S4x2048x1.Idx := (by decide : Shape.Reduces S4x2048x1 [2] S4x2048).lift t (0 : Fin 1)

/-- A column reads its token's number. -/
theorem col_apply (v : FVec Ideal S4x2048 .f32) (t : S4x2048.Idx) : col v (colOf t) = v t := by
  unfold col broadcastInDim
  refine congrArg v (funext fun a => Fin.ext ?_)
  fin_cases a <;> rfl

/-- Where the bounds are said to hold, they hold. -/
theorem within_apply (u v : FVec Ideal S4x2048 .f32) (t : S4x2048.Idx) (h : within u v (colOf t) = 1#1) :
    (u t : EReal) < ⊤ ∧ ⊥ < (v t : EReal) := by
  have e : within u v (colOf t) = IntOp.andi (Ideal.cmp .olt (col u (colOf t)) (FloatOps.ofBits .f32 0x7F800000#32 : Ideal .f32))
      (Ideal.cmp .ogt (col v (colOf t)) (FloatOps.ofBits .f32 0xFF800000#32 : Ideal .f32)) := rfl
  rw [e, IntOp.andi_eq_one, col_apply, col_apply, negInf, posInf] at h
  simpa [Ideal.cmp, ofBool_one] using h

/-- Under the precondition every token's row has a clear choice. -/
theorem clear_row (x : FVec Ideal S4x2048x1024 .f32) (w : FVec Ideal S1024x64 .f32) (β : FVec Ideal S64 .f32)
    (h : Cert.Pre_clear_choice.fn (F := Ideal) x w β = fun _ => 1#1) (t : S4x2048.Idx) : ∃ i k, Clear (rowOf (logits x w β) t) i k := by
  rw [pre_eq] at h
  generalize logits x w β = g at h ⊢
  have hu : ∀ i j : S_.Idx, i = j := fun i j => funext fun a => a.elim0
  have hall := Host.reduce_andi_eq_one (clearAt g) _ _ _ (Shape.Idx.first h_S_) (congrFun h _) t (hu _ _)
  obtain ⟨hab, hc⟩ := IntOp.andi_eq_one.1 hall
  obtain ⟨ha, hb⟩ := IntOp.andi_eq_one.1 hab
  have hw := Host.reduce_andi_eq_one _ _ _ _ t hc (colOf t) ((by decide : Shape.Reduces S4x2048x1 [2] S4x2048).drop_lift t (0 : Fin 1))
  obtain ⟨hf, hl⟩ := within_apply _ _ t hw
  have h1 := isOne_apply _ t ha
  have h2 := isOne_apply _ t hb
  have hs : (top (struck g) t : EReal) = rowMax fun j => if rowOf g t j = rowMax (rowOf g t) then ⊥ else rowOf g t j :=
    (top_apply (struck g) t).trans (congrArg rowMax (funext fun e => struck_apply g t e))
  rw [marked_apply] at h1 h2
  simp only [equals_apply] at h1 h2
  rw [top_apply] at h1 hf
  rw [hs] at h2 hl
  exact clear_of_counts h1 h2 hf hl

end Cert.Proof.Ref
-- ==== Proof.Equation.lean ====
/-
  The equation: under the precondition the kernel's three results at extended reals are the reference's.
-/
module

public import proofs.«01_k».proof.Defs
public import proofs.«01_k».proof.Proof.Launch
public import proofs.«01_k».proof.Proof.Link
public import proofs.«01_k».proof.Proof.PreRow

@[expose] public section

noncomputable section

set_option maxRecDepth 16384

namespace Cert.Proof.Route

open Cert.KernelIdeal Cert.KernelIdeal.Gen
open Idealize.ShloMosaic Idealize.SL.Sem
open Cert.Proof.Row

section Results

variable (x : Vec Ideal S4x2048x1024 .f32) (w : Vec Ideal S1024x64 .f32) (β : Vec Ideal S64 .f32)

/-- Block `b` of the tokens, cut from the argument. -/
def cut (b : Fin 4) : Vec Ideal S1x2048x1024 .f32 := XT (F := Ideal) (shapeCast S8192x1024 x shapeCasts_S4x2048x1024_S8192x1024) b

/-- The bias argument as a row. -/
def biasRow : Vec Ideal S1x64 .f32 := shapeCast S1x64 β shapeCasts_S64_S1x64

variable (hpre : Cert.Pre_clear_choice.fn (F := Ideal) x w β = fun _ => 1#1)
include hpre

/-- Every token's row in the kernel has a clear choice. -/
theorem clear_kernel (t : Cert.ReferenceIdeal.S4x2048.Idx) :
    ∃ i k, Clear (rowK (cut x (blockOf t)) w (biasRow β) (inBlock t)) i k ∧ Clear (Ref.rowOf (Ref.logits x w β) t) i k := by
  obtain ⟨i, k, hc⟩ := Ref.clear_row x w β hpre t
  have e : rowK (cut x (blockOf t)) w (biasRow β) (inBlock t) = Ref.rowOf (Ref.logits x w β) t := logits_row x w β t
  exact ⟨i, k, by rw [e]; exact hc, hc⟩

/-- The blocks of probabilities together are the reference's softmax. -/
theorem result_probs : shapeCast S4x2048x64 (stack (n := 64) fun b => P0 (cut x b) w (biasRow β)) shapeCasts_S8192x64_S4x2048x64
    = Ref.probs (Ref.logits x w β) := by
  funext j
  obtain ⟨t, e, rfl⟩ := Ref.exists_cell j
  obtain ⟨i, k, hK, _⟩ := clear_kernel x w β hpre t
  have ht0 : (t 0).val < 4 := (t 0).isLt
  have ht1 : (t 1).val < 2048 := (t 1).isLt
  refine (shapeCast_apply _ _ _ (fun a => match a with
    | ⟨0, _⟩ => (⟨2048 * (t 0).val + (t 1).val, by omega⟩ : Fin 8192)
    | ⟨1, _⟩ => e) ?_).trans ?_
  · rw [Shape.rowMajor_val_two, Shape.rowMajor_val_three]
    show (2048 * (t 0).val + (t 1).val) * 64 + e.val = ((t 0).val * 2048 + (t 1).val) * 64 + e.val
    omega
  · refine (stack_at (n := 64) _ _ (blockOf t) (cellK (inBlock t) e) rfl rfl).trans ?_
    refine (P0_apply hK e).trans ?_
    rw [Ref.probs_apply]
    exact congrArg (fun g => rowProb g e) (logits_row x w β t)

/-- The token of a place in the results. -/
def tokenOf (j : S4x2048x2.Idx) : Cert.ReferenceIdeal.S4x2048.Idx := fun a => match a with
  | ⟨0, _⟩ => j 0
  | ⟨1, _⟩ => j 1

/-- The place in its block. -/
def placeOf (j : S4x2048x2.Idx) : S2048x2.Idx := fun a => match a with
  | ⟨0, _⟩ => j 1
  | ⟨1, _⟩ => j 2

omit hpre in
/-- A stack of blocks, reshaped, read at a place. -/
theorem stack_place {α : Type} (P : Fin 4 → S2048x2.Idx → α) (j : S4x2048x2.Idx) :
    shapeCast S4x2048x2 (stack (n := 2) P) shapeCasts_S8192x2_S4x2048x2 j = P (blockOf (tokenOf j)) (placeOf j) := by
  have h0 : (j 0).val < 4 := (j 0).isLt
  have h1 : (j 1).val < 2048 := (j 1).isLt
  have h2 : (j 2).val < 2 := (j 2).isLt
  refine (shapeCast_apply _ _ _ (fun a => match a with
    | ⟨0, _⟩ => (⟨2048 * (j 0).val + (j 1).val, by omega⟩ : Fin 8192)
    | ⟨1, _⟩ => (⟨(j 2).val, h2⟩ : Fin 2)) ?_).trans ?_
  · rw [Shape.rowMajor_val_two, Shape.rowMajor_val_three]
    show (2048 * (j 0).val + (j 1).val) * 2 + (j 2).val = ((j 0).val * 2048 + (j 1).val) * 2 + (j 2).val
    omega
  · exact stack_at (n := 2) P _ (blockOf (tokenOf j)) (placeOf j) rfl rfl

/-- The blocks of best values together are the reference's. -/
theorem result_values : shapeCast S4x2048x2 (stack (n := 2) fun b => P1 (cut x b) w (biasRow β)) shapeCasts_S8192x2_S4x2048x2
    = (Ref.best (Ref.probs (Ref.logits x w β))).1 := by
  funext j
  obtain ⟨i, k, hK, hR⟩ := clear_kernel x w β hpre (tokenOf j)
  refine (stack_place _ j).trans ((P1_apply hK (placeOf j) rfl).trans ?_)
  refine Eq.trans ?_ (Ref.best_apply _ (tokenOf j) i k hR j rfl rfl).1.symm
  exact congrArg (fun g => rowProb g (if (j 2).val = 0 then i else k)) (logits_row x w β (tokenOf j))

/-- The blocks of chosen experts together are the reference's. -/
theorem result_indices : shapeCast S4x2048x2 (stack (n := 2) fun b => P2 (cut x b) w (biasRow β)) shapeCasts_S8192x2_S4x2048x2
    = (Ref.best (Ref.probs (Ref.logits x w β))).2 := by
  funext j
  obtain ⟨i, k, hK, hR⟩ := clear_kernel x w β hpre (tokenOf j)
  refine (stack_place _ j).trans ((P2_apply hK (placeOf j) rfl).trans ?_)
  exact (Ref.best_apply _ (tokenOf j) i k hR j rfl rfl).2.symm

end Results

/-- The kernel and the reference, at extended reals, end with equal results wherever every token's choice is clear. -/
theorem algebraic : Cert.algebraic_KernelIdeal_ReferenceIdeal := by
  intro m g m' g' hpre hagree
  refine ⟨fun c => Ref.probs (Ref.logits (m ((c.tc : Thread nD τ).loc main_arg0)) (m ((c.tc : Thread nD τ).loc main_arg1)) (m ((c.tc : Thread nD τ).loc main_arg2))),
    fun c => (Ref.best (Ref.probs (Ref.logits (m ((c.tc : Thread nD τ).loc main_arg0)) (m ((c.tc : Thread nD τ).loc main_arg1)) (m ((c.tc : Thread nD τ).loc main_arg2))))).1,
    fun c => (Ref.best (Ref.probs (Ref.logits (m ((c.tc : Thread nD τ).loc main_arg0)) (m ((c.tc : Thread nD τ).loc main_arg1)) (m ((c.tc : Thread nD τ).loc main_arg2))))).2,
    ?_, ?_⟩
  · refine (θ_run Cert.KernelIdeal.defs _ _).mono (fun r h c => ?_) (run_main (F := Ideal) m g)
    obtain ⟨e0, e1, e2, ha⟩ := h.1 c
    have hW : Wm m c = m ((c.tc : Thread nD τ).loc main_arg1) := V_main_arg1 m c
    refine ⟨e0.trans ?_, e1.trans ?_, e2.trans ?_, ha⟩
    · unfold G0
      rw [Xm_eq, Bm_eq, hW]
      exact result_probs _ _ _ (hpre c)
    · unfold G1
      rw [Xm_eq, Bm_eq, hW]
      exact result_values _ _ _ (hpre c)
    · unfold G2
      rw [Xm_eq, Bm_eq, hW]
      exact result_indices _ _ _ (hpre c)
  · refine (θ_run (Cert.ReferenceIdeal.defs (F := Ideal)) _ _).mono (fun r h c => ?_) (Ref.run_reference m' g')
    obtain ⟨h0, h1, h2⟩ := hagree c
    have hc := h c
    rw [h0, h1, h2] at hc
    rw [h0, h1, h2]
    exact hc

end Cert.Proof.Route
-- ==== Proof.lean ====
/-
  The certificate: the frames of the kernel as printed, of its idealized form and of the reference (Proof/Frames.lean), the two
  texts being the same, and the equation of the idealized kernel with the reference.
-/
module

public import proofs.«01_k».proof.Defs
public import proofs.«01_k».proof.Proof.Frames
public import proofs.«01_k».proof.Proof.Equation

@[expose] public section

noncomputable section

namespace Cert.Proof

/-- Every claim of the certificate, under the proved side conditions of its programs and its precondition. -/
theorem claim : Cert.Claim :=
  ⟨Cert.Kernel.Gen.facts, Cert.KernelIdeal.Gen.facts, Cert.ReferenceIdeal.Gen.facts, Cert.Pre_clear_choice.Gen.facts,
    Route.frame_kernel, Route.frame_kernel_pre, Route.frame_ideal, Route.frame_reference, Route.frame_reference_pre,
    trivial, Route.algebraic⟩

end Cert.Proof

end
